-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal_on_exact_sums [hKernelIdeal : Cert.KernelIdeal.Facts] [hReferenceIdeal : Cert.ReferenceIdeal.Facts] [hOn_exact_sums : Cert.On_exact_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Layout.block ⟨2, ![4096, 1024]⟩ ⟨2, ![4096, 8192]⟩ 1 8 c ((Cert.On_exact_sums.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 1024]⟩ : Shape).Idx → _) i = 1#1 → r.2.mem ((c.tc : Thread Cert.KernelIdeal.nD Cert.KernelIdeal.τ).loc Cert.KernelIdeal.main_v1) i = (Layout.block ⟨2, ![4096, 1024]⟩ ⟨2, ![4096, 8192]⟩ 1 8 c v0 : (⟨2, ![4096, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_exact_sums.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v13) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_on_exact_inside_clip [hKernelIdeal : Cert.KernelIdeal.Facts] [hClippedIdeal : Cert.ClippedIdeal.Facts] [hOn_exact_inside_clip : Cert.On_exact_inside_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Layout.block ⟨2, ![4096, 1024]⟩ ⟨2, ![4096, 8192]⟩ 1 8 c ((Cert.On_exact_inside_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3)))) : (⟨2, ![4096, 1024]⟩ : Shape).Idx → _) i = 1#1 → r.2.mem ((c.tc : Thread Cert.KernelIdeal.nD Cert.KernelIdeal.τ).loc Cert.KernelIdeal.main_v1) i = (Layout.block ⟨2, ![4096, 1024]⟩ ⟨2, ![4096, 8192]⟩ 1 8 c v0 : (⟨2, ![4096, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 8192]⟩ : Shape).Idx, (Cert.On_exact_inside_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3))) i = 1#1 → r.2.mem (((0 : Dev Cert.ClippedIdeal.nD).tc : Thread Cert.ClippedIdeal.nD Cert.ClippedIdeal.τ).loc Cert.ClippedIdeal.main_v14) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hOn_exact_sums : Cert.On_exact_sums.Facts) (hOn_exact_inside_clip : Cert.On_exact_inside_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal_on_exact_sums (hKernelIdeal := hKernelIdeal) (hReferenceIdeal := hReferenceIdeal) (hOn_exact_sums := hOn_exact_sums)
    ∧ algebraic_KernelIdeal_ClippedIdeal_on_exact_inside_clip (hKernelIdeal := hKernelIdeal) (hClippedIdeal := hClippedIdeal) (hOn_exact_inside_clip := hOn_exact_inside_clip)
-- ==== On_exact_inside_clip.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  natLt_8_32 : 8 < 32
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn_part1 {F : FTy → Type} [FloatOps F] (main_v8 : FVec F S4096x8192 .f32) (main_v17 : IVec S4096x8192 1) (main_v19 : IVec S4096x8192 1) (main_v20 : FVec F S4096x8192 .f32) : IVec S4096x8192 1 :=
  let main_v21 : IVec S4096x8192 1 := cmpf .ole main_v8 main_v20
  let main_v22 : IVec S4096x8192 1 := andi main_v19 main_v21
  let main_v23 : IVec S4096x8192 1 := andi main_v17 main_v22
  main_v23

def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : IVec S4096x8192 32 := (extsi 32 · natLt_8_32) main_arg1
  let main_v3 : FVec F S4096x8192 .f32 := sitofp .f32 main_v2
  let main_v4 : FVec F S4096x8192 .f32 := (fun l r => Host.dotGeneral dot_S4096x4096_S4096x8192_S4096x8192_1_0_0_1_n_n none l r) main_v1 main_v3
  let main_v5 : FVec F S1 .f32 := mulf main_arg2 main_arg3
  let main_v6 : FVec F S1x1 .f32 := broadcastInDim S1x1 ![1] bcast_S1_S1x1_1 main_v5
  let main_v7 : FVec F S4096x8192 .f32 := broadcastInDim S4096x8192 ![0, 1] bcast_S1x1_S4096x8192_0_1 main_v6
  let main_v8 : FVec F S4096x8192 .f32 := mulf main_v4 main_v7
  let main_v9 : IVec S4096x4096 32 := (extsi 32 · natLt_8_32) main_arg0
  let main_v10 : FVec F S4096x4096 .f32 := sitofp .f32 main_v9
  let main_v11 : FVec F S4096x4096 .f32 := Host.absf main_v10
  let main_v12 : IVec S4096x8192 32 := (extsi 32 · natLt_8_32) main_arg1
  let main_v13 : FVec F S4096x8192 .f32 := sitofp .f32 main_v12
  let main_v14 : FVec F S4096x8192 .f32 := Host.absf main_v13
  let main_v15 : FVec F S4096x8192 .f32 := (fun l r => Host.dotGeneral dot_S4096x4096_S4096x8192_S4096x8192_1_0_0_1_n_n none l r) main_v11 main_v14
  let main_cst : FVec F S_ .f32 := constant S_ .f32 0x4B7FFFFF#32
  let main_v16 : FVec F S4096x8192 .f32 := broadcastInDim S4096x8192 ![] bcast_S_S4096x8192 main_cst
  let main_v17 : IVec S4096x8192 1 := cmpf .ole main_v15 main_v16
  let main_cst_0 : FVec F S_ .f32 := constant S_ .f32 0xC2700000#32
  let main_v18 : FVec F S4096x8192 .f32 := broadcastInDim S4096x8192 ![] bcast_S_S4096x8192 main_cst_0
  let main_v19 : IVec S4096x8192 1 := cmpf .oge main_v8 main_v18
  let main_cst_1 : FVec F S_ .f32 := constant S_ .f32 0x42700000#32
  let main_v20 : FVec F S4096x8192 .f32 := broadcastInDim S4096x8192 ![] bcast_S_S4096x8192 main_cst_1
  fn_part1 (F := F) main_v8 main_v17 main_v19 main_v20
-- ==== On_exact_sums.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  natLt_8_32 : 8 < 32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S4096x8192 .f32 := (fun l r => Host.dotGeneral dot_S4096x4096_S4096x8192_S4096x8192_1_0_0_1_n_n none l r) main_v2 main_v5
  let main_cst : FVec F S_ .f32 := constant S_ .f32 0x4B7FFFFF#32
  let main_v7 : FVec F S4096x8192 .f32 := broadcastInDim S4096x8192 ![] bcast_S_S4096x8192 main_cst
  let main_v8 : IVec S4096x8192 1 := cmpf .ole main_v6 main_v7
  main_v8
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S2x4096x1024 : Shape := ⟨3, ![2, 4096, 1024]⟩
abbrev S7x512x1024 : Shape := ⟨3, ![7, 512, 1024]⟩
abbrev S2x512x1024 : Shape := ⟨3, ![2, 512, 1024]⟩
abbrev S2 : Shape := ⟨1, ![2]⟩
abbrev S8 : Shape := ⟨1, ![8]⟩
abbrev S_ : Shape := ⟨0, ![]⟩
abbrev S1x4096x1024 : Shape := ⟨3, ![1, 4096, 1024]⟩
abbrev S512x1024 : Shape := ⟨2, ![512, 1024]⟩
abbrev S1x512x1024 : Shape := ⟨3, ![1, 512, 1024]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .i8⟩
  | .local _ .vmem, ⟨1, _⟩ => ⟨S2x4096x1024, .i8⟩
  | .local _ .vmem, ⟨2, _⟩ => ⟨S7x512x1024, .bf16⟩
  | .local _ .vmem, ⟨3, _⟩ => ⟨S7x512x1024, .bf16⟩
  | .local _ .vmem, ⟨4, _⟩ => ⟨S2x512x1024, .f32⟩
  | .local _ .smem, ⟨0, _⟩ => ⟨S1, .f32⟩
  | .local _ .smem, ⟨1, _⟩ => ⟨S1, .f32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) (c1_i32_0 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v14 : BitVec 32 := Scalar.muli v13 c1024_i32
  ![0, v14.toNat]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v21 : BitVec 32 := Scalar.addi v2 c1_i32_11
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi v21 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c1_i32_19 : BitVec 32 := 1#32
  let v32 : BitVec 32 := Scalar.muli v31 c1_i32_19
  let v33 : BitVec 32 := Scalar.addi c0_i32_20 v32
  v33.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v34 : BitVec 32 := Scalar.addi v2 c2_i32
  let c8_i32_21 : BitVec 32 := 8#32
  let c0_i32_22 : BitVec 32 := 0#32
  let v35 : BitVec 1 := Scalar.cmpi .eq c8_i32_21 c0_i32_22
  let c1_i32_23 : BitVec 32 := 1#32
  let v36 : BitVec 32 := Scalar.select v35 c1_i32_23 c8_i32_21
  let v37 : BitVec 32 := Scalar.remsi v34 v36
  let c0_i32_25 : BitVec 32 := 0#32
  let v39 : BitVec 1 := Scalar.cmpi .slt v37 c0_i32_25
  let c0_i32_26 : BitVec 32 := 0#32
  let v40 : BitVec 1 := Scalar.cmpi .slt v36 c0_i32_26
  let v41 : BitVec 1 := Scalar.xori v39 v40
  let c0_i32_24 : BitVec 32 := 0#32
  let v38 : BitVec 1 := Scalar.cmpi .ne v37 c0_i32_24
  let v42 : BitVec 1 := Scalar.andi v41 v38
  let v43 : BitVec 32 := Scalar.addi v37 v36
  let v44 : BitVec 32 := Scalar.select v42 v43 v37
  let c1_i32_28 : BitVec 32 := 1#32
  let v45 : BitVec 32 := Scalar.muli v44 c1_i32_28
  let v46 : BitVec 32 := Scalar.addi c0_i32_29 v45
  v46.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v47 : BitVec 32 := Scalar.addi v2 c3_i32
  let c8_i32_30 : BitVec 32 := 8#32
  let c0_i32_31 : BitVec 32 := 0#32
  let v48 : BitVec 1 := Scalar.cmpi .eq c8_i32_30 c0_i32_31
  let c1_i32_32 : BitVec 32 := 1#32
  let v49 : BitVec 32 := Scalar.select v48 c1_i32_32 c8_i32_30
  let v50 : BitVec 32 := Scalar.remsi v47 v49
  let c0_i32_34 : BitVec 32 := 0#32
  let v52 : BitVec 1 := Scalar.cmpi .slt v50 c0_i32_34
  let c0_i32_35 : BitVec 32 := 0#32
  let v53 : BitVec 1 := Scalar.cmpi .slt v49 c0_i32_35
  let v54 : BitVec 1 := Scalar.xori v52 v53
  let c0_i32_33 : BitVec 32 := 0#32
  let v51 : BitVec 1 := Scalar.cmpi .ne v50 c0_i32_33
  let v55 : BitVec 1 := Scalar.andi v54 v51
  let v56 : BitVec 32 := Scalar.addi v50 v49
  let v57 : BitVec 32 := Scalar.select v55 v56 v50
  let c1_i32_37 : BitVec 32 := 1#32
  let v58 : BitVec 32 := Scalar.muli v57 c1_i32_37
  let v59 : BitVec 32 := Scalar.addi c0_i32_38 v58
  v59.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v60 : BitVec 32 := Scalar.addi v2 c4_i32
  let c8_i32_39 : BitVec 32 := 8#32
  let c0_i32_40 : BitVec 32 := 0#32
  let v61 : BitVec 1 := Scalar.cmpi .eq c8_i32_39 c0_i32_40
  let c1_i32_41 : BitVec 32 := 1#32
  let v62 : BitVec 32 := Scalar.select v61 c1_i32_41 c8_i32_39
  let v63 : BitVec 32 := Scalar.remsi v60 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c1_i32_46 : BitVec 32 := 1#32
  let v71 : BitVec 32 := Scalar.muli v70 c1_i32_46
  let v72 : BitVec 32 := Scalar.addi c0_i32_47 v71
  v72.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v73 : BitVec 32 := Scalar.addi v2 c5_i32
  let c8_i32_48 : BitVec 32 := 8#32
  let c0_i32_49 : BitVec 32 := 0#32
  let v74 : BitVec 1 := Scalar.cmpi .eq c8_i32_48 c0_i32_49
  let c1_i32_50 : BitVec 32 := 1#32
  let v75 : BitVec 32 := Scalar.select v74 c1_i32_50 c8_i32_48
  let v76 : BitVec 32 := Scalar.remsi v73 v75
  let c0_i32_52 : BitVec 32 := 0#32
  let v78 : BitVec 1 := Scalar.cmpi .slt v76 c0_i32_52
  let c0_i32_53 : BitVec 32 := 0#32
  let v79 : BitVec 1 := Scalar.cmpi .slt v75 c0_i32_53
  let v80 : BitVec 1 := Scalar.xori v78 v79
  let c0_i32_51 : BitVec 32 := 0#32
  let v77 : BitVec 1 := Scalar.cmpi .ne v76 c0_i32_51
  let v81 : BitVec 1 := Scalar.andi v80 v77
  let v82 : BitVec 32 := Scalar.addi v76 v75
  let v83 : BitVec 32 := Scalar.select v81 v82 v76
  let c1_i32_55 : BitVec 32 := 1#32
  let v84 : BitVec 32 := Scalar.muli v83 c1_i32_55
  let v85 : BitVec 32 := Scalar.addi c0_i32_56 v84
  v85.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v86 : BitVec 32 := Scalar.addi v2 c6_i32
  let c8_i32_57 : BitVec 32 := 8#32
  let c0_i32_58 : BitVec 32 := 0#32
  let v87 : BitVec 1 := Scalar.cmpi .eq c8_i32_57 c0_i32_58
  let c1_i32_59 : BitVec 32 := 1#32
  let v88 : BitVec 32 := Scalar.select v87 c1_i32_59 c8_i32_57
  let v89 : BitVec 32 := Scalar.remsi v86 v88
  let c0_i32_61 : BitVec 32 := 0#32
  let v91 : BitVec 1 := Scalar.cmpi .slt v89 c0_i32_61
  let c0_i32_62 : BitVec 32 := 0#32
  let v92 : BitVec 1 := Scalar.cmpi .slt v88 c0_i32_62
  let v93 : BitVec 1 := Scalar.xori v91 v92
  let c0_i32_60 : BitVec 32 := 0#32
  let v90 : BitVec 1 := Scalar.cmpi .ne v89 c0_i32_60
  let v94 : BitVec 1 := Scalar.andi v93 v90
  let v95 : BitVec 32 := Scalar.addi v89 v88
  let v96 : BitVec 32 := Scalar.select v94 v95 v89
  let c1_i32_64 : BitVec 32 := 1#32
  let v97 : BitVec 32 := Scalar.muli v96 c1_i32_64
  let v98 : BitVec 32 := Scalar.addi c0_i32_65 v97
  v98.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v99 : BitVec 32 := Scalar.addi v2 c7_i32
  let c8_i32_66 : BitVec 32 := 8#32
  let c0_i32_67 : BitVec 32 := 0#32
  let v100 : BitVec 1 := Scalar.cmpi .eq c8_i32_66 c0_i32_67
  let c1_i32_68 : BitVec 32 := 1#32
  let v101 : BitVec 32 := Scalar.select v100 c1_i32_68 c8_i32_66
  let v102 : BitVec 32 := Scalar.remsi v99 v101
  let c0_i32_70 : BitVec 32 := 0#32
  let v104 : BitVec 1 := Scalar.cmpi .slt v102 c0_i32_70
  let c0_i32_71 : BitVec 32 := 0#32
  let v105 : BitVec 1 := Scalar.cmpi .slt v101 c0_i32_71
  let v106 : BitVec 1 := Scalar.xori v104 v105
  let c0_i32_69 : BitVec 32 := 0#32
  let v103 : BitVec 1 := Scalar.cmpi .ne v102 c0_i32_69
  let v107 : BitVec 1 := Scalar.andi v106 v103
  let v108 : BitVec 32 := Scalar.addi v102 v101
  let v109 : BitVec 32 := Scalar.select v107 v108 v102
  let c1_i32_73 : BitVec 32 := 1#32
  let v110 : BitVec 32 := Scalar.muli v109 c1_i32_73
  let v111 : BitVec 32 := Scalar.addi c0_i32_74 v110
  v111.toNat
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_100 : BitVec 32 := 1#32
  let v147 : BitVec 32 := Scalar.addi v2 c1_i32_100
  let c8_i32_101 : BitVec 32 := 8#32
  let c0_i32_102 : BitVec 32 := 0#32
  let v148 : BitVec 1 := Scalar.cmpi .eq c8_i32_101 c0_i32_102
  let c1_i32_103 : BitVec 32 := 1#32
  let v149 : BitVec 32 := Scalar.select v148 c1_i32_103 c8_i32_101
  let v150 : BitVec 32 := Scalar.remsi v147 v149
  let c0_i32_105 : BitVec 32 := 0#32
  let v152 : BitVec 1 := Scalar.cmpi .slt v150 c0_i32_105
  let c0_i32_106 : BitVec 32 := 0#32
  let v153 : BitVec 1 := Scalar.cmpi .slt v149 c0_i32_106
  let v154 : BitVec 1 := Scalar.xori v152 v153
  let c0_i32_104 : BitVec 32 := 0#32
  let v151 : BitVec 1 := Scalar.cmpi .ne v150 c0_i32_104
  let v155 : BitVec 1 := Scalar.andi v154 v151
  let v156 : BitVec 32 := Scalar.addi v150 v149
  let v157 : BitVec 32 := Scalar.select v155 v156 v150
  let c1_i32_114 : BitVec 32 := 1#32
  let v162 : BitVec 32 := Scalar.muli v157 c1_i32_114
  let v163 : BitVec 32 := Scalar.addi c0_i32_115 v162
  v163.toNat
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_143 : BitVec 32 := 2#32
  let v204 : BitVec 32 := Scalar.addi v2 c2_i32_143
  let c8_i32_144 : BitVec 32 := 8#32
  let c0_i32_145 : BitVec 32 := 0#32
  let v205 : BitVec 1 := Scalar.cmpi .eq c8_i32_144 c0_i32_145
  let c1_i32_146 : BitVec 32 := 1#32
  let v206 : BitVec 32 := Scalar.select v205 c1_i32_146 c8_i32_144
  let v207 : BitVec 32 := Scalar.remsi v204 v206
  let c0_i32_148 : BitVec 32 := 0#32
  let v209 : BitVec 1 := Scalar.cmpi .slt v207 c0_i32_148
  let c0_i32_149 : BitVec 32 := 0#32
  let v210 : BitVec 1 := Scalar.cmpi .slt v206 c0_i32_149
  let v211 : BitVec 1 := Scalar.xori v209 v210
  let c0_i32_147 : BitVec 32 := 0#32
  let v208 : BitVec 1 := Scalar.cmpi .ne v207 c0_i32_147
  let v212 : BitVec 1 := Scalar.andi v211 v208
  let v213 : BitVec 32 := Scalar.addi v207 v206
  let v214 : BitVec 32 := Scalar.select v212 v213 v207
  let c1_i32_157 : BitVec 32 := 1#32
  let v219 : BitVec 32 := Scalar.muli v214 c1_i32_157
  let v220 : BitVec 32 := Scalar.addi c0_i32_158 v219
  v220.toNat
def k0_dev10 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_187 : BitVec 32 := 3#32
  let v261 : BitVec 32 := Scalar.addi v2 c3_i32_187
  let c8_i32_188 : BitVec 32 := 8#32
  let c0_i32_189 : BitVec 32 := 0#32
  let v262 : BitVec 1 := Scalar.cmpi .eq c8_i32_188 c0_i32_189
  let c1_i32_190 : BitVec 32 := 1#32
  let v263 : BitVec 32 := Scalar.select v262 c1_i32_190 c8_i32_188
  let v264 : BitVec 32 := Scalar.remsi v261 v263
  let c0_i32_192 : BitVec 32 := 0#32
  let v266 : BitVec 1 := Scalar.cmpi .slt v264 c0_i32_192
  let c0_i32_193 : BitVec 32 := 0#32
  let v267 : BitVec 1 := Scalar.cmpi .slt v263 c0_i32_193
  let v268 : BitVec 1 := Scalar.xori v266 v267
  let c0_i32_191 : BitVec 32 := 0#32
  let v265 : BitVec 1 := Scalar.cmpi .ne v264 c0_i32_191
  let v269 : BitVec 1 := Scalar.andi v268 v265
  let v270 : BitVec 32 := Scalar.addi v264 v263
  let v271 : BitVec 32 := Scalar.select v269 v270 v264
  let c1_i32_200 : BitVec 32 := 1#32
  let v276 : BitVec 32 := Scalar.muli v271 c1_i32_200
  let v277 : BitVec 32 := Scalar.addi c0_i32_201 v276
  v277.toNat
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_230 : BitVec 32 := 4#32
  let v318 : BitVec 32 := Scalar.addi v2 c4_i32_230
  let c8_i32_231 : BitVec 32 := 8#32
  let c0_i32_232 : BitVec 32 := 0#32
  let v319 : BitVec 1 := Scalar.cmpi .eq c8_i32_231 c0_i32_232
  let c1_i32_233 : BitVec 32 := 1#32
  let v320 : BitVec 32 := Scalar.select v319 c1_i32_233 c8_i32_231
  let v321 : BitVec 32 := Scalar.remsi v318 v320
  let c0_i32_235 : BitVec 32 := 0#32
  let v323 : BitVec 1 := Scalar.cmpi .slt v321 c0_i32_235
  let c0_i32_236 : BitVec 32 := 0#32
  let v324 : BitVec 1 := Scalar.cmpi .slt v320 c0_i32_236
  let v325 : BitVec 1 := Scalar.xori v323 v324
  let c0_i32_234 : BitVec 32 := 0#32
  let v322 : BitVec 1 := Scalar.cmpi .ne v321 c0_i32_234
  let v326 : BitVec 1 := Scalar.andi v325 v322
  let v327 : BitVec 32 := Scalar.addi v321 v320
  let v328 : BitVec 32 := Scalar.select v326 v327 v321
  let c1_i32_243 : BitVec 32 := 1#32
  let v333 : BitVec 32 := Scalar.muli v328 c1_i32_243
  let v334 : BitVec 32 := Scalar.addi c0_i32_244 v333
  v334.toNat
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_273 : BitVec 32 := 5#32
  let v375 : BitVec 32 := Scalar.addi v2 c5_i32_273
  let c8_i32_274 : BitVec 32 := 8#32
  let c0_i32_275 : BitVec 32 := 0#32
  let v376 : BitVec 1 := Scalar.cmpi .eq c8_i32_274 c0_i32_275
  let c1_i32_276 : BitVec 32 := 1#32
  let v377 : BitVec 32 := Scalar.select v376 c1_i32_276 c8_i32_274
  let v378 : BitVec 32 := Scalar.remsi v375 v377
  let c0_i32_278 : BitVec 32 := 0#32
  let v380 : BitVec 1 := Scalar.cmpi .slt v378 c0_i32_278
  let c0_i32_279 : BitVec 32 := 0#32
  let v381 : BitVec 1 := Scalar.cmpi .slt v377 c0_i32_279
  let v382 : BitVec 1 := Scalar.xori v380 v381
  let c0_i32_277 : BitVec 32 := 0#32
  let v379 : BitVec 1 := Scalar.cmpi .ne v378 c0_i32_277
  let v383 : BitVec 1 := Scalar.andi v382 v379
  let v384 : BitVec 32 := Scalar.addi v378 v377
  let v385 : BitVec 32 := Scalar.select v383 v384 v378
  let c1_i32_286 : BitVec 32 := 1#32
  let v390 : BitVec 32 := Scalar.muli v385 c1_i32_286
  let v391 : BitVec 32 := Scalar.addi c0_i32_287 v390
  v391.toNat
def k0_dev13 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_316 : BitVec 32 := 6#32
  let v432 : BitVec 32 := Scalar.addi v2 c6_i32_316
  let c8_i32_317 : BitVec 32 := 8#32
  let c0_i32_318 : BitVec 32 := 0#32
  let v433 : BitVec 1 := Scalar.cmpi .eq c8_i32_317 c0_i32_318
  let c1_i32_319 : BitVec 32 := 1#32
  let v434 : BitVec 32 := Scalar.select v433 c1_i32_319 c8_i32_317
  let v435 : BitVec 32 := Scalar.remsi v432 v434
  let c0_i32_321 : BitVec 32 := 0#32
  let v437 : BitVec 1 := Scalar.cmpi .slt v435 c0_i32_321
  let c0_i32_322 : BitVec 32 := 0#32
  let v438 : BitVec 1 := Scalar.cmpi .slt v434 c0_i32_322
  let v439 : BitVec 1 := Scalar.xori v437 v438
  let c0_i32_320 : BitVec 32 := 0#32
  let v436 : BitVec 1 := Scalar.cmpi .ne v435 c0_i32_320
  let v440 : BitVec 1 := Scalar.andi v439 v436
  let v441 : BitVec 32 := Scalar.addi v435 v434
  let v442 : BitVec 32 := Scalar.select v440 v441 v435
  let c1_i32_329 : BitVec 32 := 1#32
  let v447 : BitVec 32 := Scalar.muli v442 c1_i32_329
  let v448 : BitVec 32 := Scalar.addi c0_i32_330 v447
  v448.toNat
def k0_dev14 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_359 : BitVec 32 := 7#32
  let v489 : BitVec 32 := Scalar.addi v2 c7_i32_359
  let c8_i32_360 : BitVec 32 := 8#32
  let c0_i32_361 : BitVec 32 := 0#32
  let v490 : BitVec 1 := Scalar.cmpi .eq c8_i32_360 c0_i32_361
  let c1_i32_362 : BitVec 32 := 1#32
  let v491 : BitVec 32 := Scalar.select v490 c1_i32_362 c8_i32_360
  let v492 : BitVec 32 := Scalar.remsi v489 v491
  let c0_i32_364 : BitVec 32 := 0#32
  let v494 : BitVec 1 := Scalar.cmpi .slt v492 c0_i32_364
  let c0_i32_365 : BitVec 32 := 0#32
  let v495 : BitVec 1 := Scalar.cmpi .slt v491 c0_i32_365
  let v496 : BitVec 1 := Scalar.xori v494 v495
  let c0_i32_363 : BitVec 32 := 0#32
  let v493 : BitVec 1 := Scalar.cmpi .ne v492 c0_i32_363
  let v497 : BitVec 1 := Scalar.andi v496 v493
  let v498 : BitVec 32 := Scalar.addi v492 v491
  let v499 : BitVec 32 := Scalar.select v497 v498 v492
  let c1_i32_372 : BitVec 32 := 1#32
  let v504 : BitVec 32 := Scalar.muli v499 c1_i32_372
  let v505 : BitVec 32 := Scalar.addi c0_i32_373 v504
  v505.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v529 : BitVec 32 := Scalar.muli v2 c512_i32
  let c0_i32_394 : BitVec 32 := 0#32
  ![v529.toNat, 0]
def k0_off3 (d0 : Dev nD) (c1_i32_407 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v546 : BitVec 32 := Scalar.subi v2 c1_i32_407
  let c8_i32_408 : BitVec 32 := 8#32
  let c0_i32_409 : BitVec 32 := 0#32
  let v547 : BitVec 1 := Scalar.cmpi .eq c8_i32_408 c0_i32_409
  let c1_i32_410 : BitVec 32 := 1#32
  let v548 : BitVec 32 := Scalar.select v547 c1_i32_410 c8_i32_408
  let v549 : BitVec 32 := Scalar.remsi v546 v548
  let c0_i32_412 : BitVec 32 := 0#32
  let v551 : BitVec 1 := Scalar.cmpi .slt v549 c0_i32_412
  let c0_i32_413 : BitVec 32 := 0#32
  let v552 : BitVec 1 := Scalar.cmpi .slt v548 c0_i32_413
  let v553 : BitVec 1 := Scalar.xori v551 v552
  let c0_i32_411 : BitVec 32 := 0#32
  let v550 : BitVec 1 := Scalar.cmpi .ne v549 c0_i32_411
  let v554 : BitVec 1 := Scalar.andi v553 v550
  let v555 : BitVec 32 := Scalar.addi v549 v548
  let v556 : BitVec 32 := Scalar.select v554 v555 v549
  let c512_i32_414 : BitVec 32 := 512#32
  let v557 : BitVec 32 := Scalar.muli v556 c512_i32_414
  let c0_i32_423 : BitVec 32 := 0#32
  ![v557.toNat, 0]
abbrev stage0_0 : Fin 1 → Memref sig .tc .vmem S512x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Common.lean ====
/-
# The all-to-all's protocol: devices, cells, buffers, contents

Eight devices stand in a ring of steps. At step `j` (0 to 6) device `c` sends to the device `j + 1` places
after it, and receives from the device `j + 1` places before it. Each device has one barrier cell, seven send
cells and seven receive cells; this module names them, the buffers the steps move, and what the buffers hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.Transfers
public import Idealize.ShloMosaic.Lib.Rounds
public import Idealize.ShloMosaic.Lib.Tactic

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the steps' rounds, the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every counter at zero. -/
def s₀ : MemSt nD τ sig (Elt F) := ⟨m, fun _ => 0, ρ⟩

/-! ## The steps around the ring -/

/-- The device `j + 1` places after `c`. -/
def fwd (c : Dev nD) (j : Fin 7) : Dev nD := ⟨(c.val + (j.val + 1)) % 8, Nat.mod_lt _ (by decide)⟩
/-- The device `j + 1` places before `c`. -/
def bwd (c : Dev nD) (j : Fin 7) : Dev nD := ⟨(c.val + (7 - j.val)) % 8, Nat.mod_lt _ (by decide)⟩

theorem bwd_fwd (c : Dev nD) (j : Fin 7) : bwd (fwd c j) j = c := by revert c j; decide
theorem fwd_bwd (c : Dev nD) (j : Fin 7) : fwd (bwd c j) j = c := by revert c j; decide
/-- Step `j` and step `6 - j` undo each other: a device signalled at step `j` writes back at step `6 - j`. -/
theorem fwd_fwd_rev (c : Dev nD) (j : Fin 7) : fwd (fwd c j) j.rev = c := by revert c j; decide

def around (j : Fin 7) : Dev nD ≃ Dev nD := ⟨fun c => fwd c j, fun c => bwd c j, fun c => bwd_fwd c j, fun c => fwd_bwd c j⟩

/-! ## The memrefs -/

abbrev xM : Memref sig .tc .vmem S512x4096 .i8 := Memref.whole cc0_stg0_0
abbrev wM : Memref sig .tc .hbm S4096x8192 .i8 := Memref.whole main_arg1
abbrev aM : Memref sig .tc .smem S1 .f32 := Memref.whole cc0_stg1_0
abbrev bM : Memref sig .tc .smem S1 .f32 := Memref.whole cc0_stg2_0
abbrev oM : Memref sig .tc .hbm S4096x1024 .f32 := Memref.whole main_v1
abbrev wvM : Memref sig .tc .vmem S2x4096x1024 .i8 := Memref.whole cc0_scratch0
abbrev sdM : Memref sig .tc .vmem S7x512x1024 .bf16 := Memref.whole cc0_scratch1
abbrev rvM : Memref sig .tc .vmem S7x512x1024 .bf16 := Memref.whole cc0_scratch2
abbrev sgM : Memref sig .tc .vmem S2x512x1024 .f32 := Memref.whole cc0_scratch3

theorem inb_w (s : Fin 2) : ∀ a, (![s.val, 0, 0] : Fin 3 → Nat) a + S1x4096x1024.size a ≤ S2x4096x1024.size a := by
  revert s; decide
theorem inb_s (j : Fin 7) : ∀ a, (![j.val, 0, 0] : Fin 3 → Nat) a + S1x512x1024.size a ≤ S7x512x1024.size a := by
  revert j; decide
theorem inb_g (s : Fin 2) : ∀ a, (![s.val, 0, 0] : Fin 3 → Nat) a + S1x512x1024.size a ≤ S2x512x1024.size a := by
  revert s; decide
theorem inb_2 (s : Fin 2) : ∀ a, (![s.val] : Fin 1 → Nat) a + S1.size a ≤ S2.size a := by revert s; decide
theorem inb_8 (j : Fin 7) : ∀ a, (![j.val + 1] : Fin 1 → Nat) a + S1.size a ≤ S8.size a := by revert j; decide

abbrev wRect (s : Fin 2) : Rect S2x4096x1024 := Rect.unit (s := S2x4096x1024) ![s.val, 0, 0] S1x4096x1024.size (inb_w s)
abbrev sRect (j : Fin 7) : Rect S7x512x1024 := Rect.unit (s := S7x512x1024) ![j.val, 0, 0] S1x512x1024.size (inb_s j)
abbrev gRect (s : Fin 2) : Rect S2x512x1024 := Rect.unit (s := S2x512x1024) ![s.val, 0, 0] S1x512x1024.size (inb_g s)
/-- The columns of the weight that the device `r` places after `c` keeps of the product. -/
abbrev colRect (c : Dev nD) (r : Fin 8) : Rect S4096x8192 :=
  Rect.unit (s := S4096x8192) (k0_off1 c (BitVec.ofNat 32 r.val)) S4096x1024.size (k0_off1_inb c r)
/-- Where device `c` writes its own rows of the result, and those of the device `j + 1` places before it. -/
abbrev ownRect (c : Dev nD) : Rect S4096x1024 := Rect.unit (s := S4096x1024) (k0_off2 c) S512x1024.size (k0_off2_inb c)
abbrev rowRect (c : Dev nD) (j : Fin 7) : Rect S4096x1024 :=
  Rect.unit (s := S4096x1024) (k0_off3 c (BitVec.ofNat 32 (1 + j.val))) S512x1024.size (k0_off3_inb c j)

/-- A staging slot of the weight, a send slot, a receive slot, a staging slot of the result. -/
abbrev wSlot (s : Fin 2) : Memref sig .tc .vmem S1x4096x1024 .i8 := wvM.slice (wRect s) (fun _ => rfl)
abbrev sSlot (j : Fin 7) : Memref sig .tc .vmem S1x512x1024 .bf16 := sdM.slice (sRect j) (fun _ => rfl)
abbrev rSlot (j : Fin 7) : Memref sig .tc .vmem S1x512x1024 .bf16 := rvM.slice (sRect j) (fun _ => rfl)
abbrev gSlot (s : Fin 2) : Memref sig .tc .vmem S1x512x1024 .f32 := sgM.slice (gRect s) (fun _ => rfl)
abbrev wCol (c : Dev nD) (r : Fin 8) : Memref sig .tc .hbm S4096x1024 .i8 := wM.slice (colRect c r) (fun _ => rfl)
abbrev oOwn (c : Dev nD) : Memref sig .tc .hbm S512x1024 .f32 := oM.slice (ownRect c) (fun _ => rfl)
abbrev oRow (c : Dev nD) (j : Fin 7) : Memref sig .tc .hbm S512x1024 .f32 := oM.slice (rowRect c j) (fun _ => rfl)

/-- The same slots with their leading axis of one dropped, as the copies name them. -/
abbrev wSq (s : Fin 2) : Memref sig .tc .vmem S4096x1024 .i8 := (wSlot s).squeeze S4096x1024 squeezes_S1x4096x1024_S4096x1024
abbrev sSq (j : Fin 7) : Memref sig .tc .vmem S512x1024 .bf16 := (sSlot j).squeeze S512x1024 squeezes_S1x512x1024_S512x1024
abbrev rSq (j : Fin 7) : Memref sig .tc .vmem S512x1024 .bf16 := (rSlot j).squeeze S512x1024 squeezes_S1x512x1024_S512x1024
abbrev gSq (s : Fin 2) : Memref sig .tc .vmem S512x1024 .f32 := (gSlot s).squeeze S512x1024 squeezes_S1x512x1024_S512x1024

/-! ## The semaphores and the cells -/

/-- The barrier semaphore; the weight copies' two, the result copies' two, the steps' send and receive ones. -/
abbrev barS : Sem sig := (SemArray.scalar (sig.barrier 0 rfl) : Sems sig S_).sem
abbrev wS (s : Fin 2) : DmaSem sig := (((cc0_scratch4 : DmaSems sig S2).slice (Rect.unit (s := S2) ![s.val] S1.size (inb_2 s))).squeeze S_ squeezes_S1_S_).sem
abbrev oS (s : Fin 2) : DmaSem sig := (((cc0_scratch5 : DmaSems sig S2).slice (Rect.unit (s := S2) ![s.val] S1.size (inb_2 s))).squeeze S_ squeezes_S1_S_).sem
abbrev sendS (j : Fin 7) : DmaSem sig := (((cc0_scratch6 : DmaSems sig S8).slice (Rect.unit (s := S8) ![j.val + 1] S1.size (inb_8 j))).squeeze S_ squeezes_S1_S_).sem
abbrev recvS (j : Fin 7) : DmaSem sig := (((cc0_scratch7 : DmaSems sig S8).slice (Rect.unit (s := S8) ![j.val + 1] S1.size (inb_8 j))).squeeze S_ squeezes_S1_S_).sem

theorem wS_val (s : Fin 2) : (wS s).val = 3 + s.val := by fin_cases s <;> rfl
theorem oS_val (s : Fin 2) : (oS s).val = 5 + s.val := by fin_cases s <;> rfl
theorem sendS_val (j : Fin 7) : (sendS j).val = 8 + j.val := by fin_cases j <;> rfl
theorem recvS_val (j : Fin 7) : (recvS j).val = 16 + j.val := by fin_cases j <;> rfl

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- Which step's send semaphore a semaphore is, and which step's receive semaphore. -/
def sendIx : SemLoc sig → Option (Fin 7)
  | .dma q => if h : 8 ≤ q.val ∧ q.val < 15 then some ⟨q.val - 8, by omega⟩ else none
  | .reg _ => none
def recvIx : SemLoc sig → Option (Fin 7)
  | .dma q => if h : 16 ≤ q.val ∧ q.val < 23 then some ⟨q.val - 16, by omega⟩ else none
  | .reg _ => none

theorem sendIx_send (j : Fin 7) : sendIx (.dma (sendS j)) = some j := by
  have := sendS_val j; have := j.isLt
  dsimp only [sendIx]; rw [dif_pos (by omega)]; congr 1; exact Fin.ext (by simp only; omega)
theorem recvIx_recv (j : Fin 7) : recvIx (.dma (recvS j)) = some j := by
  have := recvS_val j; have := j.isLt
  dsimp only [recvIx]; rw [dif_pos (by omega)]; congr 1; exact Fin.ext (by simp only; omega)
theorem recvIx_send (j : Fin 7) : recvIx (.dma (sendS j)) = none := by
  have := sendS_val j; have := j.isLt
  dsimp only [recvIx]; rw [dif_neg (by omega)]

/-- The credit one block's landing pays. -/
abbrev N : ℕ := (rSq 0 : Memref sig .tc .vmem S512x1024 .bf16).view.dmaCredit
theorem N_pos : 0 < N := View.dmaCredit_pos _ (by decide)
theorem N_recv (j : Fin 7) : (rSq j).view.dmaCredit = N := rfl
theorem N_send (j : Fin 7) : (sSq j).view.dmaCredit = N := rfl

/-! ## Contents -/

/-- The row block of `x` device `c` holds, and its two scales, as the windows stage them. -/
def xC (c : Dev nD) : (cc0_stg0_0 : Ref sig .tc).ty.Contents (Elt F) :=
  (win0_0.blk (0 : Fin 1)).view.read (Elt F) (m ((c : Thread nD τ).loc main_arg0))
def aC (c : Dev nD) : (cc0_stg1_0 : Ref sig .tc).ty.Contents (Elt F) :=
  (win0_1.blk (0 : Fin 1)).view.read (Elt F) (m ((c : Thread nD τ).loc main_arg2))
def bC (c : Dev nD) : (cc0_stg2_0 : Ref sig .tc).ty.Contents (Elt F) :=
  (win0_2.blk (0 : Fin 1)).view.read (Elt F) (m ((c : Thread nD τ).loc main_arg3))

/-- The product of the two scales device `c` computes. -/
def scC (c : Dev nD) : F .f32 := k0_pay1 (aC m c (Shape.Idx.first (s := S1) (by decide))) (bC m c (Shape.Idx.first (s := S1) (by decide)))

/-- The weight's columns for the device `r` places after `c`. -/
def wC (c : Dev nD) (r : Fin 8) : S4096x1024.Idx → Elt F .i8 :=
  fun i => m ((c : Thread nD τ).loc main_arg1) ((colRect c r).emb i)
def wC3 (c : Dev nD) (r : Fin 8) : S1x4096x1024.Idx → Elt F .i8 :=
  fun i => wC m c r (Shape.reshapeEquiv squeezes_S1x4096x1024_S4096x1024.numel_eq.symm i)

/-- The block device `c` sends at step `j`: its rows of the result, in the columns of the device it sends to. -/
def sendV (c : Dev nD) (j : Fin 7) : S1x512x1024.Idx → Elt F .bf16 := k0_pay2 (scC m c) (xC m c) (wC3 m c j.succ)
/-- The block of the result device `c` makes of its own rows, and of those it received at step `j`. -/
def ownV (c : Dev nD) : S1x512x1024.Idx → Elt F .f32 := k0_pay12 (scC m c) (xC m c) (wC3 m c 0)
def rowV (c : Dev nD) (j : Fin 7) : S1x512x1024.Idx → Elt F .f32 := k0_pay13 (sendV m (bwd c j) j)

/-- The same blocks with the leading axis dropped, as they stand in the result. -/
def ownV2 (c : Dev nD) : S512x1024.Idx → Elt F .f32 := fun i => ownV m c (Shape.reshapeEquiv squeezes_S1x512x1024_S512x1024.numel_eq i)
def rowV2 (c : Dev nD) (j : Fin 7) : S512x1024.Idx → Elt F .f32 := fun i => rowV m c j (Shape.reshapeEquiv squeezes_S1x512x1024_S512x1024.numel_eq i)

/-! ## The schedule -/

/-- What a device may write at step `j`: the receive slot of that step on the device it sends to, at any contents. -/
def gift (c : Dev nD) (j : Fin 7) : sProp 𝕄 := iprop(∃ X, owns (fwd c j : Thread nD τ) (rSlot j) fullShare X)
/-- What the landing of step `j` hands device `c`: its receive slot with the sender's block. -/
def recvPay (c : Dev nD) (j : Fin 7) : sProp 𝕄 := owns (c : Thread nD τ) (rSlot j) fullShare (sendV m (bwd c j) j)
/-- What the end of the transfer hands the sender: its send slot back. -/
def sendPay (c : Dev nD) (j : Fin 7) : sProp 𝕄 := owns (c : Thread nD τ) (sSlot j) fullShare (sendV m c j)

/-- One round. A barrier cell has a duty per step, of one unit, paid by the device that signals at that step: it
    hands over the receive slot the waiter writes at the step that leads back. A send or a receive cell has one duty. -/
def sched : Rounds.Schedule (GSem nD τ sig) (Fin 7) 𝕄 where
  duties g r := if r = 0 ∧ g.1.2 = .tc then
      (if g.2 = .reg barS then Finset.univ else if (recvIx g.2).isSome ∨ (sendIx g.2).isSome then {0} else ∅) else ∅
  unitless _ := False
  amount g _ _ := if g.2 = .reg barS then 1 else N
  payload g _ d :=
    if g.2 = .reg barS then gift g.1.1 d.rev
    else match recvIx g.2 with
      | some j => recvPay m g.1.1 j
      | none => match sendIx g.2 with
        | some j => sendPay m g.1.1 j
        | none => iprop(emp)
  amount_pos g _ _ _ := by
    by_cases h : g.2 = .reg barS
    · rw [if_pos h]; exact Nat.one_pos
    · rw [if_neg h]; exact N_pos

instance sched_storable (g : GSem nD τ sig) (r : ℕ) (d : Fin 7) :
    BI.Storable (upEmb : UEmb _ 𝕄) ((sched (F := F) m).payload g r d) := by
  show BI.Storable upEmb (if g.2 = .reg barS then gift g.1.1 d.rev
    else match recvIx g.2 with
      | some j => recvPay m g.1.1 j
      | none => match sendIx g.2 with
        | some j => sendPay m g.1.1 j
        | none => iprop(emp))
  unfold gift recvPay sendPay
  split
  · infer_instance
  · split
    · infer_instance
    · split <;> infer_instance

theorem send_ne_bar (j : Fin 7) : (SemLoc.dma (sendS j) : SemLoc sig) ≠ .reg barS := fun h => by cases h
theorem recv_ne_bar (j : Fin 7) : (SemLoc.dma (recvS j) : SemLoc sig) ≠ .reg barS := fun h => by cases h

section Sched
variable (c : Dev nD) (j : Fin 7)

theorem duties_bar : (sched (F := F) m).duties (barCell c) 0 = Finset.univ := by
  dsimp only [sched]; rw [if_pos ⟨rfl, rfl⟩, if_pos rfl]
theorem duties_send : (sched (F := F) m).duties (sendCell c j) 0 = {0} := by
  dsimp only [sched]; rw [if_pos ⟨rfl, rfl⟩, if_neg (send_ne_bar j), if_pos (.inr (by rw [sendIx_send]; rfl))]
theorem duties_recv : (sched (F := F) m).duties (recvCell c j) 0 = {0} := by
  dsimp only [sched]; rw [if_pos ⟨rfl, rfl⟩, if_neg (recv_ne_bar j), if_pos (.inl (by rw [recvIx_recv]; rfl))]
theorem duties_later (g : GSem nD τ sig) : ∀ r, 1 ≤ r → (sched (F := F) m).duties g r = ∅ :=
  fun r hr => by dsimp only [sched]; rw [if_neg fun h => by omega]

theorem amount_bar (d : Fin 7) : (sched (F := F) m).amount (barCell c) 0 d = 1 := by dsimp only [sched]; exact if_pos rfl
theorem amount_send (d : Fin 7) : (sched (F := F) m).amount (sendCell c j) 0 d = N := by dsimp only [sched]; exact if_neg (send_ne_bar j)
theorem amount_recv (d : Fin 7) : (sched (F := F) m).amount (recvCell c j) 0 d = N := by dsimp only [sched]; exact if_neg (recv_ne_bar j)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (d : Fin 7) : (sched (F := F) m).payload (barCell c) 0 d = gift c d.rev := by dsimp only [sched]; rw [if_pos rfl]
theorem payload_send (d : Fin 7) : (sched (F := F) m).payload (sendCell c j) 0 d = sendPay m c j := by
  dsimp only [sched]; rw [if_neg (send_ne_bar j), recvIx_send, sendIx_send]
theorem payload_recv (d : Fin 7) : (sched (F := F) m).payload (recvCell c j) 0 d = recvPay m c j := by
  dsimp only [sched]; rw [if_neg (recv_ne_bar j), recvIx_recv]

theorem rest_bar : bigSep ((sched (F := F) m).duties (barCell c) 0 \ ∅) (fun d => (sched (F := F) m).payload (barCell c) 0 d)
    = bigSep Finset.univ fun d : Fin 7 => gift c d.rev := by
  rw [Finset.sdiff_empty, duties_bar]; exact bigSep_congr fun d _ => payload_bar m c d
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Sched

/-! ## What each core owes; the levels -/

/-- What device `c` owes before its last `k` transfers, and before its last `k` signals (and every transfer). -/
def owedR (c : Dev nD) : ℕ → CellTallies nD τ sig Unit
  | 0 => 0
  | k + 1 => owedR c k + tallyAt (recvCell (fwd c (Fin.ofNat 7 (6 - k))) (Fin.ofNat 7 (6 - k))) () N
def owedB (c : Dev nD) : ℕ → CellTallies nD τ sig Unit
  | 0 => owedR c 7
  | k + 1 => owedB c k + tallyAt (barCell (fwd c (Fin.ofNat 7 (6 - k)))) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 7) (u : Unit) : lv (recvCell c j) u = 2 := by
  unfold lv; rw [if_neg (recv_ne_bar j), if_pos (by rw [recvIx_recv]; rfl)]

theorem owedR_pos {c : Dev nD} {k : ℕ} {g : GSem nD τ sig} {u : Unit} (h : 0 < owedR c k g u) : ∃ d j, g = recvCell d j := by
  induction k with
  | zero => exact absurd h (Nat.lt_irrefl 0)
  | succ k ih =>
    unfold owedR at h
    rw [Pi.add_apply, Finsupp.add_apply, tallyAt_apply] at h
    by_cases hg : g = recvCell (fwd c (Fin.ofNat 7 (6 - k))) (Fin.ofNat 7 (6 - k)) ∧ u = ()
    · exact ⟨_, _, hg.1⟩
    · rw [if_neg hg] at h; exact ih h
theorem owedB_pos {c : Dev nD} {k : ℕ} {g : GSem nD τ sig} {u : Unit} (h : 0 < owedB c k g u) :
    (∃ d j, g = recvCell d j) ∨ ∃ d, g = barCell d := by
  induction k with
  | zero => exact .inl (owedR_pos h)
  | succ k ih =>
    unfold owedB at h
    rw [Pi.add_apply, Finsupp.add_apply, tallyAt_apply] at h
    by_cases hg : g = barCell (fwd c (Fin.ofNat 7 (6 - k))) ∧ u = ()
    · exact .inr ⟨_, hg.1⟩
    · rw [if_neg hg] at h; exact ih h

/-- A copy's own cell lies below everything a device owes, so a device may wait on it whatever it owes. -/
theorem mayWait_low (c : Dev nD) (q : DmaSem sig) (hq : recvIx (.dma q) = none) (O : CellTallies nD τ sig Unit)
    (hO : ∀ g u, 0 < O g u → (∃ d j, g = recvCell d j) ∨ ∃ d, g = barCell d) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨d, j, rfl⟩ | ⟨d, rfl⟩ <;> exact Finset.mem_singleton_self _)
    (fun p hp => by rw [Finset.mem_singleton.mp hp]; dsimp only [lv]; rw [if_neg (fun h => by cases h), hq, if_neg (by decide)])
    (fun g u hg => by
      rcases hO g u hg with ⟨d, j, rfl⟩ | ⟨d, rfl⟩
      · rw [lv_recv]; decide
      · rw [lv_bar]; decide)

/-- At its barrier wait a device owes receive cells only, above its barrier cell. -/
theorem mayWait_bar (c : Dev nD) : (levAts L lv : sProp 𝕄) ⊢ MayWait (c : Thread nD τ) (.reg barS) () (owedR c 7) :=
  MayOwe.of_cut (L := L) (lev := lv) 1 (fun p hp => by rw [Finset.mem_singleton.mp hp, L_tc]; exact Finset.mem_singleton_self _)
    (fun g u hg => by obtain ⟨d, j, rfl⟩ := owedR_pos hg; exact Finset.mem_singleton_self _)
    (fun p hp => by rw [Finset.mem_singleton.mp hp]; dsimp only [lv]; rw [if_pos rfl])
    (fun g u hg => by obtain ⟨d, j, rfl⟩ := owedR_pos hg; rw [lv_recv]; decide)

end Cert.KernelIdeal.A2A

end
-- ==== Proof.Steps.lean ====
/-
# One rule per effect of the kernel

Each rule takes the pieces one effect of the kernel uses, in the terms of `Common.lean`, and hands the
continuation what the effect leaves.
-/
module

public import proofs.«01_k».proof.Proof.Common
public import Idealize.ShloMosaic.Lib.Exec.Geometry
public import Idealize.ShloMosaic.Lib.VecWindow

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev Run {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- What a device owes, whatever waits it has recorded. -/
def owing (c : Dev nD) (O : CellTallies nD τ sig Unit) : sProp 𝕄 := iprop(∃ W, owes (c : Thread nD τ) O W)

/-- A buffer's part held whole, at any contents. -/
abbrev some' (c : Dev nD) {sp : Space} {s : Shape} {e : EltTy} (M : Memref sig .tc sp s e) : sProp 𝕄 :=
  iprop(∃ X, owns (c : Thread nD τ) M fullShare X)

/-! ## Squeezes and sub-rectangles -/

theorem owns_squeeze (c : Dev nD) {sp : Space} {s s' : Shape} {e : EltTy} (M : Memref sig .tc sp s e) (h : s.Squeezes s') (q : PosShare TreeShare)
    (X : s.Idx → Elt F e) :
    (owns (c : Thread nD τ) (M.squeeze s' h) q (fun j => X (Shape.reshapeEquiv h.numel_eq j)) : sProp 𝕄) = owns (c : Thread nD τ) M q X := by
  have hr (f : Buf (Elt F) (M.view.loc (c : Thread nD τ))) :
      ((M.squeeze s' h).view.read (Elt F) f = fun j => X (Shape.reshapeEquiv h.numel_eq j)) = (M.view.read (Elt F) f = X) := by
    refine propext ⟨fun hh => funext fun i => ?_, fun hh => ?_⟩
    · have h1 : M.view.read (Elt F) f (Shape.reshapeEquiv h.numel_eq ((Shape.reshapeEquiv h.numel_eq).symm i))
          = X (Shape.reshapeEquiv h.numel_eq ((Shape.reshapeEquiv h.numel_eq).symm i)) := congrFun hh _
      rwa [Equiv.apply_symm_apply] at h1
    · subst hh; rfl
  unfold owns
  refine congrArg _ (funext fun f => ?_)
  rw [hr f]
  rw [show (M.squeeze s' h).view.set = M.view.set from View.set_reshape M.view _]

/-! ## Loads and stores -/

section Mem
variable {α : Type} {Q : α → sProp (MT nD τ sig Unit (Elt F) ℕ UU ℕ)} (c : Dev nD)

theorem st_load {sp : CoreSpace} {s : Shape} {e : EltTy} {M : Memref sig .tc sp s e} {r : Rect s} {hs : ∀ a, r.stride a = 1}
    {hl : M.view.LoadsAt r.toLoadRect} {k : (r.shape.Idx → Elt F e) → Prog (TpuEff nD τ sig (Elt F) Λ₀ .tc) α} {q : PosShare TreeShare}
    (X : r.shape.Idx → Elt F e) :
    (owns (c : Thread nD τ) (M.slice r hs) q X : sProp 𝕄)
      ⊢ iprop((owns (c : Thread nD τ) (M.slice r hs) q X -∗ Run c (k X) Q) -∗ Run c (.op (.load M r.toLoadRect hl) k) Q) := by
  unfold owns
  iintro ⟨%f, %hf, H⟩ Hk
  iapply (wp_load_rect Variants.none (c : Thread nD τ) none Set.univ (m := M) (r := r) (Finset.Subset.refl _)) $$ H
  iintro H
  rw [show (M.access r).read (Elt F) f = X from hf]
  iapply Hk
  iexists f
  isplitr; · (ipureintro; exact hf)
  iexact H

theorem st_load_whole {sp : CoreSpace} {s : Shape} {e : EltTy} {M : Memref sig .tc sp s e} {off : Fin s.rank → ℕ} {inb : ∀ a, off a + s.size a ≤ s.size a}
    {hl : M.view.LoadsAt (Rect.unit off s.size inb).toLoadRect} {k : (s.Idx → Elt F e) → Prog (TpuEff nD τ sig (Elt F) Λ₀ .tc) α} {q : PosShare TreeShare}
    (X : s.Idx → Elt F e) :
    (owns (c : Thread nD τ) M q X : sProp 𝕄)
      ⊢ iprop((owns (c : Thread nD τ) M q X -∗ Run c (k X) Q) -∗ Run c (.op (.load M (Rect.unit off s.size inb).toLoadRect hl) k) Q) := by
  unfold owns
  iintro ⟨%f, %hf, H⟩ Hk
  iapply (wp_load_rect Variants.none (c : Thread nD τ) none Set.univ (m := M) (r := Rect.unit off s.size inb) (View.set_slice_subset _ _)) $$ H
  iintro H
  rw [show (M.access (Rect.unit off s.size inb)).read (Elt F) f = X from (View.readAt_full M.view f inb).trans hf]
  iapply Hk
  iexists f
  isplitr; · (ipureintro; exact hf)
  iexact H

theorem st_store {sp : CoreSpace} {s : Shape} {e : EltTy} {M : Memref sig .tc sp s e} {r : Rect s} {hs : ∀ a, r.stride a = 1}
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    (some' c (M.slice r hs) : sProp 𝕄)
      ⊢ iprop((owns (c : Thread nD τ) (M.slice r hs) fullShare w -∗ Run c (k ⟨⟩) Q) -∗ Run c (.op (.store M r w Finset.univ hx hm) k) Q) := by
  iintro ⟨%X, H⟩ Hk
  unfold owns
  icases H with ⟨%f, %hf, H⟩
  iapply (wp_store Variants.none (c : Thread nD τ) none Set.univ (m := M) (r := r) (Mk := Finset.univ) (S := (M.access r).set) (Finset.Subset.refl _)) $$ H
  iintro H
  iapply Hk
  iexists _
  isplitr; swap
  · iexact H
  · ipureintro; exact View.read_write_univ f w

end Mem

/-! ## The local copies -/

section Copy
variable {α : Type} {Q : α → sProp (MT nD τ sig Unit (Elt F) ℕ UU ℕ)} (c : Dev nD)

/-- A local copy under way on semaphore `sem`: at the wait, `D`. -/
abbrev Fly (sem : DmaSem sig) (n : ℕ) (D : sProp 𝕄) : sProp 𝕄 := Transfers.Flight EC (c : Thread nD τ) (.dma sem) () n D

theorem st_copy {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (τ := τ) sp (.dma sem) (.here (p := .tc) dst)}
    {k : PUnit → Prog (TpuEff nD τ sig (Elt F) Λ₀ .tc) α} {q : PosShare TreeShare} {X : s.Idx → Elt F e} (hpos : 0 < dst.view.dmaCredit) :
    iprop(owns (c : Thread nD τ) src q X ∗ some' c dst ∗ semVal ((c : Thread nD τ), .dma sem) 0)
      ⊢ iprop((Fly c sem dst.view.dmaCredit iprop(owns (c : Thread nD τ) dst fullShare X ∗ owns (c : Thread nD τ) src q X) -∗ Run c (k ⟨⟩) Q)
          -∗ Run c (.op (.enqueueDma src (.here dst) (.dma sem) hsrc hdst hsem) k) Q) := by
  iintro ⟨Hs, ⟨%Y, Hd⟩, Hz⟩ Hk
  unfold owns
  icases Hs with ⟨%f, %hf, Hs⟩
  icases Hd with ⟨%g, %hg, Hd⟩
  iapply (Transfers.wp_dmaLocal EC Variants.none (c : Thread nD τ) none (src := src) (dst := dst) (via := .same) (sm := .dma sem) () dst.view.dmaCredit rfl hpos
      (Sd := dst.view.set) (Finset.Subset.refl _)) $$ [Hs Hd Hz]
  · isplitl [Hs]; · iexact Hs
    isplitl [Hd]; · iexact Hd
    iexact Hz
  iintro Hf
  iapply Hk
  iapply (Transfers.Flight_mono EC (D' := iprop((∃ f, ⌜dst.view.read (Elt F) f = X⌝ ∗ (dst.view.loc (c : Thread nD τ) ↦[dst.view.set]{fullShare} f))
      ∗ ∃ f, ⌜src.view.read (Elt F) f = X⌝ ∗ (src.view.loc (c : Thread nD τ) ↦[src.view.set]{q} f))) ?_) $$ Hf
  iintro ⟨Hd, Hs⟩
  isplitl [Hd]
  · iexists _
    isplitr; swap
    · iexact Hd
    · ipureintro; rw [View.read_write_univ]; exact hf
  · iexists f
    isplitr; · (ipureintro; exact hf)
    iexact Hs

theorem st_await {sp sp' : Space} {s s' : Shape} {e e' : EltTy} {srcw : Memref sig .tc sp' s' e'} {dstw : Memref sig .tc sp s e} {sem : DmaSem sig}
    {hsrc : srcw.view.WordExact} {hdst : dstw.view.WordExact} {k : PUnit → Prog (TpuEff nD τ sig (Elt F) Λ₀ .tc) α} {n : ℕ} {D : sProp 𝕄}
    (O : CellTallies nD τ sig Unit) (hn : dstw.view.dmaCredit = n) (hw : (levAts L lv : sProp 𝕄) ⊢ MayWait (c : Thread nD τ) (.dma sem) () O) :
    iprop(levAts L lv ∗ Fly c sem n D ∗ owing c O)
      ⊢ iprop((iprop(D ∗ semVal ((c : Thread nD τ), .dma sem) 0 ∗ owing c O) -∗ Run c (k ⟨⟩) Q)
          -∗ Run c (.op (.waitDma2 sem srcw dstw hsrc hdst) k) Q) := by
  unfold owing
  iintro ⟨Hl, Hf, ⟨%W, HO⟩⟩ Hk
  iapply (Transfers.wp_waitLocalO EC Variants.none (c : Thread nD τ) none () hn (O := O) (W := W)) $$ [Hl Hf HO]
  · isplitl [Hf]; · iexact Hf
    isplitl [HO]; · iexact HO
    iapply hw; iexact Hl
  iintro ⟨HD, Hz, HO⟩
  iapply Hk
  isplitl [HD]; · iexact HD
  isplitl [Hz]; · iexact Hz
  iexists _; iexact HO

end Copy

/-! ## The cells -/

/-- A device's cells: its barrier's, and a send and a receive one per step. -/
abbrev CI : Type := Unit ⊕ (Fin 7 ⊕ Fin 7)
def csem : CI → SemLoc sig
  | .inl _ => .reg barS
  | .inr (.inl j) => .dma (sendS j)
  | .inr (.inr j) => .dma (recvS j)
abbrev kcell (ck : Dev nD × CI) : GSem nD τ sig := ((ck.1 : Thread nD τ), csem ck.2)

/-- Every cell's invariant, and that every cell has reached its one round. -/
def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (sched m) (K ck) (kcell ck) := by
  have h : (bigSep Finset.univ fun ck : Dev nD × CI => (cellInv ER (sched m) (K ck) (kcell ck) : sProp 𝕄)) ⊢ cellInv ER (sched m) (K ck) (kcell ck) :=
    bigSep_elim (Finset.mem_univ ck)
  unfold records; iintro ⟨H, -⟩; iapply h; iexact H
theorem reached_at (K : Dev nD × CI → ℕ) (ck : Dev nD × CI) : records m K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, H⟩; iapply h; iexact H

section Cells
variable {α : Type} {Q : α → sProp (MT nD τ sig Unit (Elt F) ℕ UU ℕ)} (K : Dev nD × CI → ℕ) (c : Dev nD) (j : Fin 7)

theorem st_signal (n : Dev nD) (hn : n = fwd c j) (O : CellTallies nD τ sig Unit) {k : PUnit → Prog (TpuEff nD τ sig (Elt F) Λ₀ .tc) α} :
    iprop(records m K ∗ owing c (O + tallyAt (barCell (fwd c j)) () 1) ∗ dutyTok ER (barCell (fwd c j)) 0 j ∗ some' c (rSlot j.rev))
      ⊢ iprop((owing c O -∗ Run c (k ⟨⟩) Q) -∗ Run c (.op (.semSignal ((n, .tc) : Thread nD τ) barS (1#32).toInt) k) Q) := by
  subst hn
  unfold owing
  iintro ⟨#HR, ⟨%W, HO⟩, Ht, Hs⟩ Hk
  iapply (Rounds.wp_signal Variants.none ER (sched m) (c : Thread nD τ) none (dst := (fwd c j : Thread nD τ)) (κ := K (fwd c j, .inl ())) (d := j)
      (by rw [duties_bar]; exact Finset.mem_univ _) (amount_bar m (fwd c j) j) () O rfl (W := W)) $$ [HO Ht Hs]
  · isplitr; · iapply (inv_at m K (fwd c j, .inl ())); iexact HR
    isplitl [HO]; · iexact HO
    isplitl [Ht]; · iexact Ht
    isplitl [Hs]; · rw [payload_bar]; unfold gift; rw [fwd_fwd_rev]; iexact Hs
    iapply (reached_at m K (fwd c j, .inl ())); iexact HR
  iintro HO
  iapply Hk
  iexists W; iexact HO

theorem st_bar (hk : (7#32).toInt = ((7 : ℕ) : Int)) {k : PUnit → Prog (TpuEff nD τ sig (Elt F) Λ₀ .tc) α} :
    iprop(records m K ∗ levAts L lv ∗ cred (tallyAt (barCell c) () 7) ∗ owing c (owedR c 7) ∗ atPos ER (barCell c) 0 ∅ 0)
      ⊢ iprop((iprop(owing c (owedR c 7) ∗ semVal (barCell c) 0 ∗ bigSep Finset.univ fun d : Fin 7 => gift c d.rev) -∗ Run c (k ⟨⟩) Q)
          -∗ Run c (.op (.semWait barS (7#32).toInt) k) Q) := by
  unfold owing
  iintro ⟨#HR, Hl, Hc, ⟨%W, HO⟩, Ha⟩ Hk
  iapply (Rounds.wp_wait_rest_token Variants.none ER (sched m) (c : Thread nD τ) none (κ := K (c, .inl ()))
      (wpE_semWait_eq Variants.none (c : Thread nD τ) none Set.univ) (Set.mem_univ _) () (O := owedR c 7) (W := W) (R := 0) (m := 0) (T := ∅)
      (by rw [expect_bar]; decide)) $$ [Hl Hc HO Ha]
  · isplitr; · iapply (inv_at m K (c, .inl ())); iexact HR
    isplitl [Hc]; · iexact Hc
    isplitl [HO]; · iexact HO
    isplitl [Hl]; · iapply (mayWait_bar c); iexact Hl
    iexact Ha
  iintro ⟨HO, Ha, -, Hp⟩
  imod (Rounds.cell_close ER (sched m) (Set.mem_univ (K (c, .inl ()))) (fun h => h) (R := 0 + 1) (duties_later m (barCell c))) $$ [Ha] with Hz
  · isplitr; · iapply (inv_at m K (c, .inl ())); iexact HR
    iexact Ha
  iapply Hk
  isplitl [HO]; · iexists _; iexact HO
  isplitl [Hz]; · iexact Hz
  iapply (Entails.of_eq (rest_bar m c)); iexact Hp

theorem st_send (n : Dev nD) (hn : n = fwd c j) (O : CellTallies nD τ sig Unit) {hsc : (rSq j : Memref sig (Dev.tc n : Thread nD τ).2.kind .vmem S512x1024 .bf16).view.ref.isScScratch = false}
    {hsrc : (sSq j).view.WordExact} {hdst : (rSq j).view.WordExact}
    {hsem : DmaTarget.Typed .vmem (.dma (recvS j)) (.remote (Dev.tc n : Thread nD τ) (rSq j : Memref sig (Dev.tc n : Thread nD τ).2.kind .vmem S512x1024 .bf16) (.dma (sendS j)) hsc)}
    {k : PUnit → Prog (TpuEff nD τ sig (Elt F) Λ₀ .tc) α} :
    iprop(records m K ∗ owns (c : Thread nD τ) (sSlot j) fullShare (sendV m c j) ∗ gift c j
        ∗ owing c (O + tallyAt (recvCell (fwd c j) j) () N) ∗ dutyTok ER (sendCell c j) 0 0 ∗ dutyTok ER (recvCell (fwd c j) j) 0 0)
      ⊢ iprop((iprop(owing c O ∗ cred (tallyAt (sendCell c j) () N)) -∗ Run c (k ⟨⟩) Q)
          -∗ Run c (.op (.enqueueDma (sSq j) (.remote (Dev.tc n : Thread nD τ) (rSq j) (.dma (sendS j)) hsc) (.dma (recvS j)) hsrc hdst hsem) k) Q) := by
  subst hn
  iintro ⟨#HR, Hs, Hg, HO, Ht1, Ht2⟩ Hk
  unfold owing gift
  icases HO with ⟨%W, HO⟩
  icases Hg with ⟨%Y, Hg⟩
  ihave Hs := (Entails.of_eq (owns_squeeze c (sSlot j) squeezes_S1x512x1024_S512x1024 fullShare (sendV m c j)).symm) $$ Hs
  ihave Hg := (Entails.of_eq (owns_squeeze (fwd c j) (rSlot j) squeezes_S1x512x1024_S512x1024 fullShare Y).symm) $$ Hg
  unfold owns
  icases Hs with ⟨%f, %hf, Hs⟩
  icases Hg with ⟨%g, %hg, Hg⟩
  iapply (Rounds.wp_send_pointsTo Variants.none ER (sched m) (c : Thread nD τ) none (κ₁ := K (c, .inr (.inl j))) (κ₂ := K (fwd c j, .inr (.inr j)))
    (c' := (fwd c j : Thread nD τ)) (src := sSq j) (dst := rSq j) (sS := .dma (sendS j)) (sem := .dma (recvS j))
    (r₁ := 0) (r₂ := 0) (d₁ := 0) (d₂ := 0) (fs := f) (fd := g)
    (by rw [duties_send]; exact Finset.mem_singleton_self _) (by rw [duties_recv]; exact Finset.mem_singleton_self _)
    () () N rfl (amount_send m c j 0) (amount_recv m (fwd c j) j 0) O rfl (W := W) ?p1 ?p2) $$ [Hs Hg HO Ht1 Ht2]
  case p1 =>
    rw [payload_send]; unfold sendPay
    rw [← owns_squeeze c (sSlot j) squeezes_S1x512x1024_S512x1024 fullShare (sendV m c j)]
    unfold owns
    iintro H; iexists f; isplitr; · (ipureintro; exact hf)
    iexact H
  case p2 =>
    rw [payload_recv]; unfold recvPay
    rw [bwd_fwd, ← owns_squeeze (fwd c j) (rSlot j) squeezes_S1x512x1024_S512x1024 fullShare (sendV m c j)]
    unfold owns
    iintro H; iexists _; isplitr; swap; · iexact H
    ipureintro; rw [View.read_write_univ]; exact hf
  · isplitr; · iapply (inv_at m K (c, .inr (.inl j))); iexact HR
    isplitr; · iapply (inv_at m K (fwd c j, .inr (.inr j))); iexact HR
    isplitl [Hs]; · iexact Hs
    isplitl [Hg]; · iexact Hg
    isplitl [HO]; · iexact HO
    isplitl [Ht1]; · iexact Ht1
    isplitr; · iapply (reached_at m K (c, .inr (.inl j))); iexact HR
    isplitl [Ht2]; · iexact Ht2
    iapply (reached_at m K (fwd c j, .inr (.inr j))); iexact HR
  iintro ⟨Hc, HO⟩
  iapply Hk
  isplitl [HO]; · iexists _; iexact HO
  iexact Hc

theorem st_recv {sp : Space} {s : Shape} {e : EltTy} {srcw : Memref sig .tc sp s e} {hsrc : srcw.view.WordExact} {hdst : (rSq j).view.WordExact}
    {k : PUnit → Prog (TpuEff nD τ sig (Elt F) Λ₀ .tc) α} :
    iprop(records m K ∗ cred (tallyAt (recvCell c j) () N) ∗ owing c 0 ∗ atPos ER (recvCell c j) 0 ∅ 0)
      ⊢ iprop((iprop(owing c 0 ∗ semVal (recvCell c j) 0 ∗ recvPay m c j) -∗ Run c (k ⟨⟩) Q)
          -∗ Run c (.op (.waitDma2 (recvS j) srcw (rSq j) hsrc hdst) k) Q) := by
  unfold owing
  iintro ⟨#HR, Hc, ⟨%W, HO⟩, Ha⟩ Hk
  iapply (Rounds.wp_wait_rest_token Variants.none ER (sched m) (c : Thread nD τ) none (κ := K (c, .inr (.inr j)))
      (wpE_waitDma2_eq Variants.none (c : Thread nD τ) none Set.univ) (Set.mem_univ _) () (O := 0) (W := W) (R := 0) (m := 0) (T := ∅)
      (by rw [Nat.zero_add, expect_recv])) $$ [Hc HO Ha]
  · isplitr; · iapply (inv_at m K (c, .inr (.inr j))); iexact HR
    isplitl [Hc]; · iexact Hc
    isplitl [HO]; · iexact HO
    isplitr; · rw [MayWait_zero]; iempintro
    iexact Ha
  iintro ⟨HO, Ha, -, Hp⟩
  imod (Rounds.cell_close ER (sched m) (Set.mem_univ (K (c, .inr (.inr j)))) (fun h => h) (R := 0 + 1) (duties_later m (recvCell c j))) $$ [Ha] with Hz
  · isplitr; · iapply (inv_at m K (c, .inr (.inr j))); iexact HR
    iexact Ha
  iapply Hk
  isplitl [HO]; · iexists _; iexact HO
  isplitl [Hz]; · iexact Hz
  iapply (Entails.of_eq (rest_recv m c j)); iexact Hp

theorem st_sent {sp : Space} {s : Shape} {e : EltTy} {srcw : Memref sig .tc sp s e} {hsrc : srcw.view.WordExact} {hdst : (sSq j).view.WordExact}
    {k : PUnit → Prog (TpuEff nD τ sig (Elt F) Λ₀ .tc) α} :
    iprop(records m K ∗ cred (tallyAt (sendCell c j) () N) ∗ owing c 0 ∗ atPos ER (sendCell c j) 0 ∅ 0)
      ⊢ iprop((iprop(owing c 0 ∗ semVal (sendCell c j) 0 ∗ sendPay m c j) -∗ Run c (k ⟨⟩) Q)
          -∗ Run c (.op (.waitDma2 (sendS j) srcw (sSq j) hsrc hdst) k) Q) := by
  unfold owing
  iintro ⟨#HR, Hc, ⟨%W, HO⟩, Ha⟩ Hk
  iapply (Rounds.wp_wait_rest_token Variants.none ER (sched m) (c : Thread nD τ) none (κ := K (c, .inr (.inl j)))
      (wpE_waitDma2_eq Variants.none (c : Thread nD τ) none Set.univ) (Set.mem_univ _) () (O := 0) (W := W) (R := 0) (m := 0) (T := ∅)
      (by rw [Nat.zero_add, expect_send])) $$ [Hc HO Ha]
  · isplitr; · iapply (inv_at m K (c, .inr (.inl j))); iexact HR
    isplitl [Hc]; · iexact Hc
    isplitl [HO]; · iexact HO
    isplitr; · rw [MayWait_zero]; iempintro
    iexact Ha
  iintro ⟨HO, Ha, -, Hp⟩
  imod (Rounds.cell_close ER (sched m) (Set.mem_univ (K (c, .inr (.inl j)))) (fun h => h) (R := 0 + 1) (duties_later m (sendCell c j))) $$ [Ha] with Hz
  · isplitr; · iapply (inv_at m K (c, .inr (.inl j))); iexact HR
    iexact Ha
  iapply Hk
  isplitl [HO]; · iexists _; iexact HO
  isplitl [Hz]; · iexact Hz
  iapply (Entails.of_eq (rest_send m c j)); iexact Hp

end Cells

end Cert.KernelIdeal.A2A

end
-- ==== Proof.Moves.lean ====
/-
# The kernel's own moves

The rules of `Steps.lean` in the kernel's terms: the copy of a block of the weight's columns into a staging slot,
the copy of a block of the result out of one, and the words of scalar memory it reads.
-/
module

public import proofs.«01_k».proof.Proof.Steps

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)
variable {α : Type} {Q : α → sProp (MT nD τ sig Unit (Elt F) ℕ UU ℕ)}

/-- Device `c` holds its part of a buffer whole, reading `X`. -/
abbrev own {sp : Space} {s : Shape} {e : EltTy} (M : Memref sig .tc sp s e) (X : s.Idx → Elt F e) : sProp 𝕄 :=
  owns (c : Thread nD τ) M fullShare X

/-- A copy's counter at zero: the copy may start. -/
abbrev idle (q : DmaSem sig) : sProp 𝕄 := semVal ((c : Thread nD τ), .dma q) 0

/-- Column block `r` of the weight on its way into staging slot `s`. -/
def wFly (s : Fin 2) (r : Fin 8) : sProp 𝕄 :=
  Fly c (wS s) (wSq 0).view.dmaCredit iprop(own c (wSlot s) (wC3 m c r) ∗ own c (wCol c r) (wC m c r))

/-- Staging slot `s` of the result, reading `V`, on its way to the rows `dst`. -/
def oFly (s : Fin 2) (dst : Memref sig .tc .hbm S512x1024 .f32) (V : S1x512x1024.Idx → Elt F .f32) : sProp 𝕄 :=
  Fly c (oS s) dst.view.dmaCredit
    iprop(own c dst (fun i => V (Shape.reshapeEquiv squeezes_S1x512x1024_S512x1024.numel_eq i)) ∗ own c (gSlot s) V)

theorem wC3_sq (r : Fin 8) : (fun j => wC3 m c r (Shape.reshapeEquiv squeezes_S1x4096x1024_S4096x1024.numel_eq j)) = wC m c r := by
  funext j
  exact congrArg (wC m c r) ((Shape.reshapeEquiv squeezes_S1x4096x1024_S4096x1024.numel_eq).symm_apply_apply j)

theorem mv_wstart (s : Fin 2) (r : Fin 8) {hsrc : (wCol c r).view.WordExact} {hdst : (wSq s).view.WordExact}
    {hsem : DmaTarget.Typed (nD := nD) (τ := τ) .hbm (.dma (wS s)) (.here (p := .tc) (wSq s))} {k : PUnit → Prog (TpuEff nD τ sig (Elt F) Λ₀ .tc) α} :
    iprop(own c (wCol c r) (wC m c r) ∗ some' c (wSlot s) ∗ idle c (wS s))
      ⊢ iprop((wFly m c s r -∗ Run c (k ⟨⟩) Q) -∗ Run c (.op (.enqueueDma (wCol c r) (.here (wSq s)) (.dma (wS s)) hsrc hdst hsem) k) Q) := by
  iintro ⟨Hw, ⟨%Y, Hs⟩, Hz⟩ Hk
  iapply (st_copy c (src := wCol c r) (dst := wSq s) (sem := wS s) (q := fullShare) (X := wC m c r) (View.dmaCredit_pos _ (by decide))) $$ [Hw Hs Hz]
  · isplitl [Hw]; · iexact Hw
    isplitl [Hs]
    · iexists _
      iapply (Entails.of_eq (owns_squeeze c (wSlot s) squeezes_S1x4096x1024_S4096x1024 fullShare Y).symm); iexact Hs
    iexact Hz
  iintro Hf
  iapply Hk
  unfold wFly
  iapply (Transfers.Flight_mono EC ?_) $$ Hf
  iintro ⟨H1, H2⟩
  isplitl [H1]
  · iapply (Entails.of_eq (owns_squeeze c (wSlot s) squeezes_S1x4096x1024_S4096x1024 fullShare (wC3 m c r)))
    rw [wC3_sq]; iexact H1
  iexact H2

theorem low_owed (k : ℕ) (g : GSem nD τ sig) (u : Unit) (h : 0 < owedR c k g u) : (∃ d j, g = recvCell d j) ∨ ∃ d, g = barCell d :=
  .inl (owedR_pos h)
theorem recvIx_w (s : Fin 2) : recvIx (.dma (wS s)) = none := by
  have := wS_val s; have := s.isLt
  dsimp only [recvIx]; rw [dif_neg (by omega)]
theorem recvIx_o (s : Fin 2) : recvIx (.dma (oS s)) = none := by
  have := oS_val s; have := s.isLt
  dsimp only [recvIx]; rw [dif_neg (by omega)]

theorem mv_wawait (s : Fin 2) (r : Fin 8) (n : ℕ) {sp' : Space} {s' : Shape} {e' : EltTy} {srcw : Memref sig .tc sp' s' e'} {hsrc : srcw.view.WordExact} {hdst : (wSq s).view.WordExact}
    {k : PUnit → Prog (TpuEff nD τ sig (Elt F) Λ₀ .tc) α} :
    iprop(levAts L lv ∗ wFly m c s r ∗ owing c (owedR c n))
      ⊢ iprop((iprop(own c (wSlot s) (wC3 m c r) ∗ own c (wCol c r) (wC m c r) ∗ idle c (wS s) ∗ owing c (owedR c n)) -∗ Run c (k ⟨⟩) Q)
          -∗ Run c (.op (.waitDma2 (wS s) srcw (wSq s) hsrc hdst) k) Q) := by
  iintro ⟨Hl, Hf, HO⟩ Hk
  unfold wFly
  iapply (st_await c (sem := wS s) (dstw := wSq s) (owedR c n) (n := (wSq 0).view.dmaCredit) rfl (mayWait_low c (wS s) (recvIx_w s) (owedR c n) (low_owed c n))) $$ [Hl Hf HO]
  · isplitl [Hl]; · iexact Hl
    isplitl [Hf]; · iexact Hf
    iexact HO
  iintro ⟨⟨H1, H2⟩, Hz, HO⟩
  iapply Hk
  isplitl [H1]; · iexact H1
  isplitl [H2]; · iexact H2
  isplitl [Hz]; · iexact Hz
  iexact HO

theorem mv_ostart (s : Fin 2) (dst : Memref sig .tc .hbm S512x1024 .f32) (V : S1x512x1024.Idx → Elt F .f32) {hsrc : (gSq s).view.WordExact} {hdst : dst.view.WordExact}
    {hsem : DmaTarget.Typed (nD := nD) (τ := τ) .vmem (.dma (oS s)) (.here (p := .tc) dst)} {k : PUnit → Prog (TpuEff nD τ sig (Elt F) Λ₀ .tc) α} :
    iprop(own c (gSlot s) V ∗ some' c dst ∗ idle c (oS s))
      ⊢ iprop((oFly c s dst V -∗ Run c (k ⟨⟩) Q) -∗ Run c (.op (.enqueueDma (gSq s) (.here dst) (.dma (oS s)) hsrc hdst hsem) k) Q) := by
  iintro ⟨Hs, Hd, Hz⟩ Hk
  iapply (st_copy c (src := gSq s) (dst := dst) (sem := oS s) (q := fullShare)
    (X := fun i => V (Shape.reshapeEquiv squeezes_S1x512x1024_S512x1024.numel_eq i)) (View.dmaCredit_pos _ (by decide))) $$ [Hs Hd Hz]
  · isplitl [Hs]
    · iapply (Entails.of_eq (owns_squeeze c (gSlot s) squeezes_S1x512x1024_S512x1024 fullShare V).symm); iexact Hs
    isplitl [Hd]; · iexact Hd
    iexact Hz
  iintro Hf
  iapply Hk
  unfold oFly
  iapply (Transfers.Flight_mono EC ?_) $$ Hf
  iintro ⟨H1, H2⟩
  isplitl [H1]; · iexact H1
  iapply (Entails.of_eq (owns_squeeze c (gSlot s) squeezes_S1x512x1024_S512x1024 fullShare V)); iexact H2

theorem mv_oawait (s : Fin 2) (dst : Memref sig .tc .hbm S512x1024 .f32) (V : S1x512x1024.Idx → Elt F .f32) {sp' : Space} {s' : Shape} {e' : EltTy} {srcw : Memref sig .tc sp' s' e'}
    {hsrc : srcw.view.WordExact} {hdst : dst.view.WordExact} {k : PUnit → Prog (TpuEff nD τ sig (Elt F) Λ₀ .tc) α} :
    iprop(levAts L lv ∗ oFly c s dst V ∗ owing c 0)
      ⊢ iprop((iprop(own c dst (fun i => V (Shape.reshapeEquiv squeezes_S1x512x1024_S512x1024.numel_eq i)) ∗ own c (gSlot s) V ∗ idle c (oS s) ∗ owing c 0) -∗ Run c (k ⟨⟩) Q)
          -∗ Run c (.op (.waitDma2 (oS s) srcw dst hsrc hdst) k) Q) := by
  iintro ⟨Hl, Hf, HO⟩ Hk
  unfold oFly
  iapply (st_await c (sem := oS s) (dstw := dst) (owedR c 0) (n := dst.view.dmaCredit) rfl (mayWait_low c (oS s) (recvIx_o s) (owedR c 0) (low_owed c 0))) $$ [Hl Hf HO]
  · isplitl [Hl]; · iexact Hl
    isplitl [Hf]; · iexact Hf
    iexact HO
  iintro ⟨⟨H1, H2⟩, Hz, HO⟩
  iapply Hk
  isplitl [H1]; · iexact H1
  isplitl [H2]; · iexact H2
  isplitl [Hz]; · iexact Hz
  iexact HO

/-- The read of the one word of a one-word buffer of scalar memory. -/
theorem mv_smem {M : Memref sig .tc .smem S1 .f32} {off : Fin 1 → ℕ} {inb : ∀ a, off a + S1.size a ≤ S1.size a}
    {hw : (M.access (Rect.unit (s := S1) off S1.size inb)).Loads} {h0 : 0 < S1.numel} {X : S1.Idx → Elt F .f32}
    {k : Elt F .f32 → Prog (TpuEff nD τ sig (Elt F) Λ₀ .tc) α} :
    (own c M X : sProp 𝕄)
      ⊢ iprop((own c M X -∗ Run c (k (X (Shape.Idx.first h0))) Q) -∗ Run c (smemLoadElt M (Rect.unit (s := S1) off S1.size inb) hw (Shape.Idx.first h0) k) Q) := by
  unfold own owns
  iintro ⟨%f, %hf, H⟩ Hk
  iapply (wp_smemLoadElt Variants.none (c : Thread nD τ) none Set.univ (m := M) (r := Rect.unit (s := S1) off S1.size inb) (View.set_slice_subset _ _)) $$ H
  iintro H
  rw [show (M.access (Rect.unit (s := S1) off S1.size inb)).read (Elt F) f = X from (View.readAt_full M.view f inb).trans hf]
  iapply Hk
  iexists f
  isplitr; · (ipureintro; exact hf)
  iexact H

/-! ## Runs of operations the parts repeat -/

theorem run_done {a : α} : Q a ⊢ Run c (.ret a) Q := by
  unfold Run; rw [wp_ret]; iintro H; imodintro; iexact H

/-- Wait for a column block of the weight, then load the activations and the block. -/
theorem mv_take (s : Fin 2) (r : Fin 8) (n : ℕ) {sp' : Space} {s' : Shape} {e' : EltTy} {srcw : Memref sig .tc sp' s' e'} {hsrc : srcw.view.WordExact}
    {hdst : (wSq s).view.WordExact} {off : Fin S512x4096.rank → ℕ} {inb : ∀ a, off a + S512x4096.size a ≤ S512x4096.size a}
    {hl : xM.view.LoadsAt (Rect.unit (s := S512x4096) off S512x4096.size inb).toLoadRect} {hl' : wvM.view.LoadsAt (wRect s).toLoadRect}
    {k : (S512x4096.Idx → Elt F .i8) → (S1x4096x1024.Idx → Elt F .i8) → Prog (TpuEff nD τ sig (Elt F) Λ₀ .tc) α} :
    iprop(levAts L lv ∗ wFly m c s r ∗ owing c (owedR c n) ∗ own c xM (xC m c))
      ⊢ iprop((iprop(own c (wSlot s) (wC3 m c r) ∗ own c (wCol c r) (wC m c r) ∗ idle c (wS s) ∗ owing c (owedR c n) ∗ own c xM (xC m c))
            -∗ Run c (k (xC m c) (wC3 m c r)) Q)
          -∗ Run c (.op (.waitDma2 (wS s) srcw (wSq s) hsrc hdst) fun _ =>
              .op (.load xM (Rect.unit (s := S512x4096) off S512x4096.size inb).toLoadRect hl) fun x => .op (.load wvM (wRect s).toLoadRect hl') fun w => k x w) Q) := by
  iintro ⟨Hl, Hf, HO, Hx⟩ Hk
  iapply (mv_wawait m c s r n) $$ [Hl Hf HO]
  · isplitl [Hl]; · iexact Hl
    isplitl [Hf]; · iexact Hf
    iexact HO
  iintro ⟨H1, H2, Hz, HO⟩
  iapply (st_load_whole c (xC m c)) $$ Hx
  iintro Hx
  iapply (st_load c (wC3 m c r)) $$ H1
  iintro H1
  iapply Hk
  isplitl [H1]; · iexact H1
  isplitl [H2]; · iexact H2
  isplitl [Hz]; · iexact Hz
  isplitl [HO]; · iexact HO
  iexact Hx

/-- Fill send slot `j`; the load before it is of no use. -/
theorem mv_fill (j : Fin 7) {w : S1x512x1024.Idx → Elt F .bf16} {hl : sdM.view.LoadsAt (sRect j).toLoadRect}
    {hx : (sdM.access (sRect j)).Stores Finset.univ} {hm : (Finset.univ : Finset (sRect j).shape.Idx) = Finset.univ ∨ ∀ a, (sRect j).stride a = 1}
    {k : PUnit → Prog (TpuEff nD τ sig (Elt F) Λ₀ .tc) α} :
    (some' c (sSlot j) : sProp 𝕄)
      ⊢ iprop((own c (sSlot j) w -∗ Run c (k ⟨⟩) Q)
          -∗ Run c (.op (.load sdM (sRect j).toLoadRect hl) fun _ => .op (.store sdM (sRect j) w Finset.univ hx hm) k) Q) := by
  iintro ⟨%X, H⟩ Hk
  iapply (st_load c X) $$ H
  iintro H
  iapply (st_store c) $$ [H]
  · iexists X; iexact H
  iexact Hk

/-- Fill staging slot `s` of the result; the load before it is of no use. -/
theorem mv_stage (s : Fin 2) {w : S1x512x1024.Idx → Elt F .f32} {hl : sgM.view.LoadsAt (gRect s).toLoadRect}
    {hx : (sgM.access (gRect s)).Stores Finset.univ} {hm : (Finset.univ : Finset (gRect s).shape.Idx) = Finset.univ ∨ ∀ a, (gRect s).stride a = 1}
    {k : PUnit → Prog (TpuEff nD τ sig (Elt F) Λ₀ .tc) α} :
    (some' c (gSlot s) : sProp 𝕄)
      ⊢ iprop((own c (gSlot s) w -∗ Run c (k ⟨⟩) Q)
          -∗ Run c (.op (.load sgM (gRect s).toLoadRect hl) fun _ => .op (.store sgM (gRect s) w Finset.univ hx hm) k) Q) := by
  iintro ⟨%X, H⟩ Hk
  iapply (st_load c X) $$ H
  iintro H
  iapply (st_store c) $$ [H]
  · iexists X; iexact H
  iexact Hk

end Cert.KernelIdeal.A2A

end
-- ==== Proof.Parts1.lean ====
/-
# The kernel's parts, up to the last transfer

The kernel is printed as a sequence of parts. For each, in order: what it takes of the device's holdings, and
what it hands on. Here the handshake and the seven products sent; `Parts2.lean` has the rest.
-/
module

public import proofs.«01_k».proof.Proof.Moves
public import Idealize.ShloMosaic.Lib.Exec.Context

@[expose] public section

set_option maxRecDepth 8000
set_option maxHeartbeats 1000000

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The devices the signals and the transfers name: signal and transfer `j` go to the device `j + 1` places on. -/
theorem signal_devs : (⟨k0_dev1 c, k0_dev1_lt c⟩ : Dev nD) = fwd c 0 ∧ (⟨k0_dev2 c, k0_dev2_lt c⟩ : Dev nD) = fwd c 1
    ∧ (⟨k0_dev3 c, k0_dev3_lt c⟩ : Dev nD) = fwd c 2 ∧ (⟨k0_dev4 c, k0_dev4_lt c⟩ : Dev nD) = fwd c 3
    ∧ (⟨k0_dev5 c, k0_dev5_lt c⟩ : Dev nD) = fwd c 4 ∧ (⟨k0_dev6 c, k0_dev6_lt c⟩ : Dev nD) = fwd c 5
    ∧ (⟨k0_dev7 c, k0_dev7_lt c⟩ : Dev nD) = fwd c 6 := by
  revert c; decide +kernel
theorem send_devs : (⟨k0_dev8 c, k0_dev8_lt c⟩ : Dev nD) = fwd c 0 ∧ (⟨k0_dev9 c, k0_dev9_lt c⟩ : Dev nD) = fwd c 1
    ∧ (⟨k0_dev10 c, k0_dev10_lt c⟩ : Dev nD) = fwd c 2 ∧ (⟨k0_dev11 c, k0_dev11_lt c⟩ : Dev nD) = fwd c 3
    ∧ (⟨k0_dev12 c, k0_dev12_lt c⟩ : Dev nD) = fwd c 4 ∧ (⟨k0_dev13 c, k0_dev13_lt c⟩ : Dev nD) = fwd c 5
    ∧ (⟨k0_dev14 c, k0_dev14_lt c⟩ : Dev nD) = fwd c 6 := by
  revert c; decide +kernel

/-- What device `c` signals with at step `j`: the token of that duty, and the receive slot it gives up. -/
abbrev sigTok (j : Fin 7) : sProp 𝕄 := iprop(dutyTok ER (barCell (fwd c j)) 0 j ∗ some' c (rSlot j.rev))
/-- What device `c` sends with at step `j`: the tokens of the two duties the transfer pays. -/
abbrev sndTok (j : Fin 7) : sProp 𝕄 := iprop(dutyTok ER (sendCell c j) 0 0 ∗ dutyTok ER (recvCell (fwd c j) j) 0 0)

theorem part1 {Q : _ → sProp (MT nD τ sig Unit (Elt F) ℕ UU ℕ)} :
    iprop(own c (wCol c 1) (wC m c 1) ∗ some' c (wSlot 0) ∗ idle c (wS 0))
      ⊢ iprop((∀ v2, ∀ v32, ∀ c0, wFly m c 0 1 -∗ Q ⟨c, v2, SemArray.scalar (sig.barrier 0 rfl), v32, c0⟩) -∗ Run c (k0_part1_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7) Q) := by
  unfold k0_part1_skel Run
  simp only [Prog.lift, Prog.bind_op, Prog.bind_ret, Prog.pure_eq_ret, wp_deviceId]
  iintro H Hk
  iapply (mv_wstart m c 0 1) $$ H
  iintro H
  iapply run_done
  iapply Hk; iexact H

/-- A signal, its token and its receive slot taken together. -/
theorem signal_step (j : Fin 7) (n : Dev nD) (hn : n = fwd c j) (O' O : CellTallies nD τ sig Unit) (hO : O' = O + tallyAt (barCell (fwd c j)) () 1) {α : Type} {Q : α → sProp (MT nD τ sig Unit (Elt F) ℕ UU ℕ)}
    {k : PUnit → Prog (TpuEff nD τ sig (Elt F) Λ₀ .tc) α} :
    iprop(records m K ∗ owing c O' ∗ sigTok c j)
      ⊢ iprop((owing c O -∗ Run c (k ⟨⟩) Q) -∗ Run c (.op (.semSignal ((n, .tc) : Thread nD τ) barS (1#32).toInt) k) Q) :=
  hO ▸ st_signal m K c j n hn O

/-- A transfer, its two tokens taken together. -/
theorem send_step (j : Fin 7) (n : Dev nD) (hn : n = fwd c j) (O' O : CellTallies nD τ sig Unit) (hO : O' = O + tallyAt (recvCell (fwd c j) j) () N) {α : Type} {Q : α → sProp (MT nD τ sig Unit (Elt F) ℕ UU ℕ)}
    {hsc : (rSq j : Memref sig (Dev.tc n : Thread nD τ).2.kind .vmem S512x1024 .bf16).view.ref.isScScratch = false}
    {hsrc : (sSq j).view.WordExact} {hdst : (rSq j).view.WordExact}
    {hsem : DmaTarget.Typed .vmem (.dma (recvS j)) (.remote (Dev.tc n : Thread nD τ) (rSq j : Memref sig (Dev.tc n : Thread nD τ).2.kind .vmem S512x1024 .bf16) (.dma (sendS j)) hsc)}
    {k : PUnit → Prog (TpuEff nD τ sig (Elt F) Λ₀ .tc) α} :
    iprop(records m K ∗ owing c O' ∗ own c (sSlot j) (sendV m c j) ∗ gift c j ∗ sndTok c j)
      ⊢ iprop((iprop(owing c O ∗ cred (tallyAt (sendCell c j) () N)) -∗ Run c (k ⟨⟩) Q)
          -∗ Run c (.op (.enqueueDma (sSq j) (.remote (Dev.tc n : Thread nD τ) (rSq j) (.dma (sendS j)) hsc) (.dma (recvS j)) hsrc hdst hsem) k) Q) := by
  iintro ⟨HR, HO, Hs, Hg, Ht⟩ Hk
  subst hO
  iapply (st_send m K c j n hn O) $$ [HR HO Hs Hg Ht]
  · isplitl [HR]; · iexact HR
    isplitl [Hs]; · iexact Hs
    isplitl [Hg]; · iexact Hg
    isplitl [HO]; · iexact HO
    iexact Ht
  iexact Hk

theorem part2 (v2 v32 c0 : BitVec 32) {Q : _ → sProp (MT nD τ sig Unit (Elt F) ℕ UU ℕ)} :
    iprop(records m K ∗ owing c (owedB c 7) ∗ sigTok c 0 ∗ sigTok c 1 ∗ sigTok c 2)
      ⊢ iprop((∀ r₁, ∀ r₂, ∀ r₃, owing c (owedB c 4) -∗ Q ⟨r₁, r₂, r₃⟩) -∗ Run c (k0_part2_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (SemArray.scalar (sig.barrier 0 rfl)) v32 c0) Q) := by
  unfold k0_part2_skel
  simp only [semSignalWord, Prog.lift, Prog.bind_op, Prog.bind_ret, Prog.pure_eq_ret]
  iintro ⟨#HR, HO, H0, H1, H2⟩ Hk
  iapply (signal_step m K c 0 _ (signal_devs c).1 (owedB c 7) (owedB c 6) rfl) $$ [HO H0]
  · isplitr; · iexact HR
    isplitl [HO]; · iexact HO
    iassumption
  iintro HO
  iapply (signal_step m K c 1 _ (signal_devs c).2.1 (owedB c 6) (owedB c 5) rfl) $$ [HO H1]
  · isplitr; · iexact HR
    isplitl [HO]; · iexact HO
    iassumption
  iintro HO
  iapply (signal_step m K c 2 _ (signal_devs c).2.2.1 (owedB c 5) (owedB c 4) rfl) $$ [HO H2]
  · isplitr; · iexact HR
    isplitl [HO]; · iexact HO
    iassumption
  iintro HO
  iapply run_done
  iapply Hk; iexact HO

theorem part3 (v2 v62 v63 : BitVec 32) (v64 : BitVec 1) {Q : _ → sProp (MT nD τ sig Unit (Elt F) ℕ UU ℕ)} :
    iprop(records m K ∗ owing c (owedB c 4) ∗ sigTok c 3 ∗ sigTok c 4)
      ⊢ iprop((∀ r₁, ∀ r₂, owing c (owedB c 2) -∗ Q ⟨r₁, r₂⟩) -∗ Run c (k0_part3_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (SemArray.scalar (sig.barrier 0 rfl)) v62 v63 v64) Q) := by
  unfold k0_part3_skel
  simp only [semSignalWord, Prog.lift, Prog.bind_op, Prog.bind_ret, Prog.pure_eq_ret]
  iintro ⟨#HR, HO, H0, H1⟩ Hk
  iapply (signal_step m K c 3 _ (signal_devs c).2.2.2.1 (owedB c 4) (owedB c 3) rfl) $$ [HO H0]
  · isplitr; · iexact HR
    isplitl [HO]; · iexact HO
    iassumption
  iintro HO
  iapply (signal_step m K c 4 _ (signal_devs c).2.2.2.2.1 (owedB c 3) (owedB c 2) rfl) $$ [HO H1]
  · isplitr; · iexact HR
    isplitl [HO]; · iexact HO
    iassumption
  iintro HO
  iapply run_done
  iapply Hk; iexact HO

theorem part4 (v2 v97 c0 : BitVec 32) {Q : _ → sProp (MT nD τ sig Unit (Elt F) ℕ UU ℕ)} :
    iprop(records m K ∗ levAts L lv ∗ owing c (owedB c 2) ∗ sigTok c 5 ∗ sigTok c 6 ∗ cred (tallyAt (barCell c) () 7) ∗ atPos ER (barCell c) 0 ∅ 0
        ∗ own c aM (aC m c) ∗ own c bM (bC m c))
      ⊢ iprop((iprop(owing c (owedR c 7) ∗ semVal (barCell c) 0 ∗ (bigSep Finset.univ fun d : Fin 7 => gift c d.rev) ∗ own c aM (aC m c) ∗ own c bM (bC m c)) -∗ Q (scC m c))
          -∗ Run c (k0_part4_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (SemArray.scalar (sig.barrier 0 rfl)) v97 c0) Q) := by
  unfold k0_part4_skel
  simp only [semSignalWord, semWaitWord, smemLoad, smemLoadElt_bind, Prog.lift, Prog.bind_op, Prog.bind_ret, Prog.pure_eq_ret]
  iintro ⟨#HR, Hl, HO, H0, H1, Hc, Hp, Ha, Hb⟩ Hk
  iapply (signal_step m K c 5 _ (signal_devs c).2.2.2.2.2.1 (owedB c 2) (owedB c 1) rfl) $$ [HO H0]
  · isplitr; · iexact HR
    isplitl [HO]; · iexact HO
    iassumption
  iintro HO
  iapply (signal_step m K c 6 _ (signal_devs c).2.2.2.2.2.2 (owedB c 1) (owedB c 0) rfl) $$ [HO H1]
  · isplitr; · iexact HR
    isplitl [HO]; · iexact HO
    iassumption
  iintro HO
  iapply (st_bar m K c (by decide)) $$ [Hl HO Hc Hp]
  · isplitr; · iexact HR
    isplitl [Hl]; · iexact Hl
    isplitl [Hc]; · iexact Hc
    isplitl [HO]; · iexact HO
    iexact Hp
  iintro ⟨HO, Hz, Hg⟩
  iapply (mv_smem c) $$ Ha
  iintro Ha
  iapply (mv_smem c) $$ Hb
  iintro Hb
  iapply run_done
  unfold scC
  iapply Hk
  isplitl [HO]; · iexact HO
  isplitl [Hz]; · iexact Hz
  isplitl [Hg]; · iexact Hg
  isplitl [Ha]; · iexact Ha
  iexact Hb

/-- Start the next column block into slot `s`, then wait for the one under way into slot `s'` and load it. -/
theorem go_take (s s' : Fin 2) (r r' : Fin 8) (n : ℕ) {α : Type} {Q : α → sProp (MT nD τ sig Unit (Elt F) ℕ UU ℕ)}
    {hsrc : (wCol c r').view.WordExact} {hdst : (wSq s).view.WordExact}
    {hsem : DmaTarget.Typed (nD := nD) (τ := τ) .hbm (.dma (wS s)) (.here (p := .tc) (wSq s))}
    {sp₁ : Space} {s₁ : Shape} {e₁ : EltTy} {srcw : Memref sig .tc sp₁ s₁ e₁} {hsrc' : srcw.view.WordExact}
    {hdst' : (wSq s').view.WordExact} {off : Fin S512x4096.rank → ℕ} {inb : ∀ a, off a + S512x4096.size a ≤ S512x4096.size a}
    {hl : xM.view.LoadsAt (Rect.unit (s := S512x4096) off S512x4096.size inb).toLoadRect} {hl' : wvM.view.LoadsAt (wRect s').toLoadRect}
    {k : (S512x4096.Idx → Elt F .i8) → (S1x4096x1024.Idx → Elt F .i8) → Prog (TpuEff nD τ sig (Elt F) Λ₀ .tc) α} :
    iprop(levAts L lv ∗ own c (wCol c r') (wC m c r') ∗ some' c (wSlot s) ∗ idle c (wS s) ∗ wFly m c s' r ∗ owing c (owedR c n) ∗ own c xM (xC m c))
      ⊢ iprop((iprop(wFly m c s r' ∗ own c (wSlot s') (wC3 m c r) ∗ own c (wCol c r) (wC m c r) ∗ idle c (wS s') ∗ owing c (owedR c n) ∗ own c xM (xC m c))
            -∗ Run c (k (xC m c) (wC3 m c r)) Q)
          -∗ Run c (.op (.enqueueDma (wCol c r') (.here (wSq s)) (.dma (wS s)) hsrc hdst hsem) fun _ => .op (.waitDma2 (wS s') srcw (wSq s') hsrc' hdst') fun _ =>
              .op (.load xM (Rect.unit (s := S512x4096) off S512x4096.size inb).toLoadRect hl) fun x => .op (.load wvM (wRect s').toLoadRect hl') fun w => k x w) Q) := by
  iintro ⟨Hl, Hc, Hs, Hz, Hf, HO, Hx⟩ Hk
  iapply (mv_wstart m c s r') $$ [Hc Hs Hz]
  · isplitl [Hc]; · iexact Hc
    isplitl [Hs] <;> iassumption
  iintro Hg
  iapply (mv_take m c s' r n) $$ [Hl Hf HO Hx]
  · isplitl [Hl]; · iexact Hl
    isplitl [Hf]; · iexact Hf
    isplitl [HO] <;> iassumption
  iintro H
  iapply Hk
  isplitl [Hg] <;> iassumption

/-- Send slot `j`, then start the next column block into slot `s`. -/
theorem go_send (j : Fin 7) (n : Dev nD) (hn : n = fwd c j) (O' O : CellTallies nD τ sig Unit) (hO : O' = O + tallyAt (recvCell (fwd c j) j) () N) (s : Fin 2) (r r' : Fin 8)
    {α : Type} {Q : α → sProp (MT nD τ sig Unit (Elt F) ℕ UU ℕ)}
    {hsc : (rSq j : Memref sig (Dev.tc n : Thread nD τ).2.kind .vmem S512x1024 .bf16).view.ref.isScScratch = false}
    {hsrc : (sSq j).view.WordExact} {hdst : (rSq j).view.WordExact}
    {hsem : DmaTarget.Typed .vmem (.dma (recvS j)) (.remote (Dev.tc n : Thread nD τ) (rSq j : Memref sig (Dev.tc n : Thread nD τ).2.kind .vmem S512x1024 .bf16) (.dma (sendS j)) hsc)}
    {hsrc' : (wCol c r').view.WordExact} {hdst' : (wSq s).view.WordExact}
    {hsem' : DmaTarget.Typed (nD := nD) (τ := τ) .hbm (.dma (wS s)) (.here (p := .tc) (wSq s))}
    {k : PUnit → Prog (TpuEff nD τ sig (Elt F) Λ₀ .tc) α} :
    iprop(records m K ∗ owing c O' ∗ own c (sSlot j) (sendV m c j) ∗ gift c j ∗ sndTok c j
        ∗ own c (wCol c r') (wC m c r') ∗ own c (wSlot s) (wC3 m c r) ∗ idle c (wS s))
      ⊢ iprop((iprop(owing c O ∗ cred (tallyAt (sendCell c j) () N) ∗ wFly m c s r') -∗ Run c (k ⟨⟩) Q)
          -∗ Run c (.op (.enqueueDma (sSq j) (.remote (Dev.tc n : Thread nD τ) (rSq j) (.dma (sendS j)) hsc) (.dma (recvS j)) hsrc hdst hsem) fun _ =>
              .op (.enqueueDma (wCol c r') (.here (wSq s)) (.dma (wS s)) hsrc' hdst' hsem') k) Q) := by
  iintro ⟨HR, HO, Hs, Hg, Ht, Hc, Hw, Hz⟩ Hk
  iapply (send_step m K c j n hn O' O hO) $$ [HR HO Hs Hg Ht]
  · isplitl [HR]; · iexact HR
    isplitl [HO]; · iexact HO
    isplitl [Hs]; · iexact Hs
    isplitl [Hg]; · iexact Hg
    iexact Ht
  iintro ⟨HO, Hcr⟩
  iapply (mv_wstart m c s r') $$ [Hc Hw Hz]
  · isplitl [Hc]; · iexact Hc
    isplitl [Hw]; · (iexists _; iexact Hw)
    iexact Hz
  iintro Hf
  iapply Hk
  isplitl [HO]; · iexact HO
  isplitl [Hcr] <;> iassumption

theorem part5 (v2 : BitVec 32) {Q : _ → sProp (MT nD τ sig Unit (Elt F) ℕ UU ℕ)} :
    iprop(iprop(levAts L lv ∗ own c (wCol c 2) (wC m c 2) ∗ some' c (wSlot 1) ∗ idle c (wS 1) ∗ wFly m c 0 1 ∗ owing c (owedR c 7) ∗ own c xM (xC m c)) ∗ some' c (sSlot 0))
      ⊢ iprop((∀ r, iprop(iprop(wFly m c 1 2 ∗ own c (wSlot 0) (wC3 m c 1) ∗ own c (wCol c 1) (wC m c 1) ∗ idle c (wS 0) ∗ owing c (owedR c 7) ∗ own c xM (xC m c))
            ∗ own c (sSlot 0) (sendV m c 0)) -∗ Q r)
          -∗ Run c (k0_part5_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c)) Q) := by
  unfold k0_part5_skel
  simp only [Prog.lift, Prog.bind_op, Prog.bind_ret, Prog.pure_eq_ret]
  iintro ⟨H, Hd⟩ Hk
  iapply (go_take m c 1 0 1 2 7) $$ H
  iintro H
  iapply (mv_fill c 0) $$ Hd
  iintro Hd
  iapply run_done
  iapply Hk
  isplitl [H]; · iexact H
  iexact Hd

theorem part6 (v2 v157 : BitVec 32) {Q : _ → sProp (MT nD τ sig Unit (Elt F) ℕ UU ℕ)} :
    iprop(records m K ∗ owing c (owedR c 7) ∗ own c (sSlot 0) (sendV m c 0) ∗ gift c 0 ∗ sndTok c 0 ∗ own c (wCol c 3) (wC m c 3) ∗ own c (wSlot 0) (wC3 m c 1) ∗ idle c (wS 0))
      ⊢ iprop((∀ r, iprop(owing c (owedR c 6) ∗ cred (tallyAt (sendCell c 0) () N) ∗ wFly m c 0 3) -∗ Q r) -∗ Run c (k0_part6_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 v157) Q) := by
  unfold k0_part6_skel
  simp only [Prog.lift, Prog.bind_op, Prog.bind_ret, Prog.pure_eq_ret]
  iintro H Hk
  iapply (go_send m K c 0 _ (send_devs c).1 (owedR c 7) (owedR c 6) rfl 0 1 3) $$ H
  iintro H
  iapply run_done
  iapply Hk
  iexact H

theorem part7 (v2 : BitVec 32) {Q : _ → sProp (MT nD τ sig Unit (Elt F) ℕ UU ℕ)} :
    iprop(iprop(levAts L lv ∗ wFly m c 1 2 ∗ owing c (owedR c 6) ∗ own c xM (xC m c)) ∗ some' c (sSlot 1))
      ⊢ iprop((∀ r, iprop(iprop(own c (wSlot 1) (wC3 m c 2) ∗ own c (wCol c 2) (wC m c 2) ∗ idle c (wS 1) ∗ owing c (owedR c 6) ∗ own c xM (xC m c))
            ∗ own c (sSlot 1) (sendV m c 1)) -∗ Q r)
          -∗ Run c (k0_part7_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c)) Q) := by
  unfold k0_part7_skel
  simp only [Prog.lift, Prog.bind_op, Prog.bind_ret, Prog.pure_eq_ret]
  iintro ⟨H, Hd⟩ Hk
  iapply (mv_take m c 1 2 6) $$ H
  iintro H
  iapply (mv_fill c 1) $$ Hd
  iintro Hd
  iapply run_done
  iapply Hk
  isplitl [H]; · iexact H
  iexact Hd

theorem part8 (v2 : BitVec 32) {Q : _ → sProp (MT nD τ sig Unit (Elt F) ℕ UU ℕ)} :
    iprop(iprop(records m K ∗ owing c (owedR c 6) ∗ own c (sSlot 1) (sendV m c 1) ∗ gift c 1 ∗ sndTok c 1
          ∗ own c (wCol c 4) (wC m c 4) ∗ own c (wSlot 1) (wC3 m c 2) ∗ idle c (wS 1))
        ∗ levAts L lv ∗ wFly m c 0 3 ∗ own c xM (xC m c))
      ⊢ iprop((iprop(iprop(cred (tallyAt (sendCell c 1) () N) ∗ wFly m c 1 4)
            ∗ own c (wSlot 0) (wC3 m c 3) ∗ own c (wCol c 3) (wC m c 3) ∗ idle c (wS 0) ∗ owing c (owedR c 5) ∗ own c xM (xC m c)) -∗ Q (k0_pay4 (scC m c) (xC m c) (wC3 m c 3)))
          -∗ Run c (k0_part8_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c)) Q) := by
  unfold k0_part8_skel
  simp only [Prog.lift, Prog.bind_op, Prog.bind_ret, Prog.pure_eq_ret]
  iintro ⟨H, Hl, Hf, Hx⟩ Hk
  iapply (go_send m K c 1 _ (send_devs c).2.1 (owedR c 6) (owedR c 5) rfl 1 2 4) $$ H
  iintro ⟨HO, H⟩
  iapply (mv_take m c 0 3 5) $$ [Hl Hf HO Hx]
  · isplitl [Hl]; · iexact Hl
    isplitl [Hf]; · iexact Hf
    isplitl [HO] <;> iassumption
  iintro H'
  iapply run_done
  iapply Hk
  isplitl [H]; · iexact H
  iexact H'

/-- Fill send slot `j` with the product and send it. -/
theorem go_fill (j : Fin 7) (n : Dev nD) (hn : n = fwd c j) (O' O : CellTallies nD τ sig Unit) (hO : O' = O + tallyAt (recvCell (fwd c j) j) () N) {α : Type} {Q : α → sProp (MT nD τ sig Unit (Elt F) ℕ UU ℕ)}
    {w : S1x512x1024.Idx → Elt F .bf16} (hw : w = sendV m c j) {hl : sdM.view.LoadsAt (sRect j).toLoadRect}
    {hx : (sdM.access (sRect j)).Stores Finset.univ} {hm : (Finset.univ : Finset (sRect j).shape.Idx) = Finset.univ ∨ ∀ a, (sRect j).stride a = 1}
    {hsc : (rSq j : Memref sig (Dev.tc n : Thread nD τ).2.kind .vmem S512x1024 .bf16).view.ref.isScScratch = false}
    {hsrc : (sSq j).view.WordExact} {hdst : (rSq j).view.WordExact}
    {hsem : DmaTarget.Typed .vmem (.dma (recvS j)) (.remote (Dev.tc n : Thread nD τ) (rSq j : Memref sig (Dev.tc n : Thread nD τ).2.kind .vmem S512x1024 .bf16) (.dma (sendS j)) hsc)}
    {k : PUnit → Prog (TpuEff nD τ sig (Elt F) Λ₀ .tc) α} :
    iprop(records m K ∗ owing c O' ∗ some' c (sSlot j) ∗ gift c j ∗ sndTok c j)
      ⊢ iprop((iprop(owing c O ∗ cred (tallyAt (sendCell c j) () N)) -∗ Run c (k ⟨⟩) Q)
          -∗ Run c (.op (.load sdM (sRect j).toLoadRect hl) fun _ => .op (.store sdM (sRect j) w Finset.univ hx hm) fun _ =>
              .op (.enqueueDma (sSq j) (.remote (Dev.tc n : Thread nD τ) (rSq j) (.dma (sendS j)) hsc) (.dma (recvS j)) hsrc hdst hsem) k) Q) := by
  subst hw
  iintro ⟨HR, HO, Hs, Hg, Ht⟩ Hk
  iapply (mv_fill c j) $$ Hs
  iintro Hs
  iapply (send_step m K c j n hn O' O hO) $$ [HR HO Hs Hg Ht]
  · isplitl [HR]; · iexact HR
    isplitl [HO]; · iexact HO
    isplitl [Hs]; · iexact Hs
    isplitl [Hg]; · iexact Hg
    iexact Ht
  iexact Hk

theorem part9 (v2 : BitVec 32) {Q : _ → sProp (MT nD τ sig Unit (Elt F) ℕ UU ℕ)} :
    iprop(records m K ∗ owing c (owedR c 5) ∗ some' c (sSlot 2) ∗ gift c 2 ∗ sndTok c 2)
      ⊢ iprop((∀ r₁, ∀ r₂, ∀ r₃, ∀ r₄, ∀ r₅, iprop(owing c (owedR c 4) ∗ cred (tallyAt (sendCell c 2) () N)) -∗ Q ⟨r₁, r₂, r₃, r₄, r₅⟩)
          -∗ Run c (k0_part9_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (k0_pay4 (scC m c) (xC m c) (wC3 m c 3))) Q) := by
  unfold k0_part9_skel
  simp only [Prog.lift, Prog.bind_op, Prog.bind_ret, Prog.pure_eq_ret]
  iintro H Hk
  iapply (go_fill m K c 2 _ (send_devs c).2.2.1 (owedR c 5) (owedR c 4) rfl rfl) $$ H
  iintro H
  iapply run_done
  iapply Hk
  iexact H

theorem part10 (v2 v288 v289 : BitVec 32) (v290 : BitVec 1) (c0 : BitVec 32) {Q : _ → sProp (MT nD τ sig Unit (Elt F) ℕ UU ℕ)} :
    iprop(levAts L lv ∗ own c (wCol c 5) (wC m c 5) ∗ some' c (wSlot 0) ∗ idle c (wS 0) ∗ wFly m c 1 4 ∗ owing c (owedR c 4) ∗ own c xM (xC m c))
      ⊢ iprop((∀ r₁, ∀ r₂, ∀ r₃, ∀ r₄, ∀ r₅, iprop(wFly m c 0 5 ∗ own c (wSlot 1) (wC3 m c 4) ∗ own c (wCol c 4) (wC m c 4) ∗ idle c (wS 1) ∗ owing c (owedR c 4) ∗ own c xM (xC m c))
            -∗ Q ⟨k0_pay6 (scC m c) (xC m c) (wC3 m c 4), r₁, r₂, r₃, r₄, r₅⟩)
          -∗ Run c (k0_part10_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c) v288 v289 v290 c0) Q) := by
  unfold k0_part10_skel
  simp only [Prog.lift, Prog.bind_op, Prog.bind_ret, Prog.pure_eq_ret]
  iintro H Hk
  iapply (go_take m c 0 1 4 5 4) $$ H
  iintro H
  iapply run_done
  iapply Hk
  iexact H

theorem part11 (v2 v320 v321 : BitVec 32) (v322 v323 : BitVec 1) (c0 : BitVec 32) {Q : _ → sProp (MT nD τ sig Unit (Elt F) ℕ UU ℕ)} :
    iprop(records m K ∗ owing c (owedR c 4) ∗ some' c (sSlot 3) ∗ gift c 3 ∗ sndTok c 3)
      ⊢ iprop((∀ r, iprop(owing c (owedR c 3) ∗ cred (tallyAt (sendCell c 3) () N)) -∗ Q r)
          -∗ Run c (k0_part11_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (k0_pay6 (scC m c) (xC m c) (wC3 m c 4)) v320 v321 v322 v323 c0) Q) := by
  unfold k0_part11_skel
  simp only [Prog.lift, Prog.bind_op, Prog.bind_ret, Prog.pure_eq_ret]
  iintro H Hk
  iapply (go_fill m K c 3 _ (send_devs c).2.2.2.1 (owedR c 4) (owedR c 3) rfl rfl) $$ H
  iintro H
  iapply run_done
  iapply Hk
  iexact H

theorem part12 (v2 : BitVec 32) {Q : _ → sProp (MT nD τ sig Unit (Elt F) ℕ UU ℕ)} :
    iprop(iprop(levAts L lv ∗ own c (wCol c 6) (wC m c 6) ∗ some' c (wSlot 1) ∗ idle c (wS 1) ∗ wFly m c 0 5 ∗ owing c (owedR c 3) ∗ own c xM (xC m c)) ∗ some' c (sSlot 4))
      ⊢ iprop((∀ r, iprop(iprop(wFly m c 1 6 ∗ own c (wSlot 0) (wC3 m c 5) ∗ own c (wCol c 5) (wC m c 5) ∗ idle c (wS 0) ∗ owing c (owedR c 3) ∗ own c xM (xC m c))
            ∗ own c (sSlot 4) (sendV m c 4)) -∗ Q r)
          -∗ Run c (k0_part12_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c)) Q) := by
  unfold k0_part12_skel
  simp only [Prog.lift, Prog.bind_op, Prog.bind_ret, Prog.pure_eq_ret]
  iintro ⟨H, Hd⟩ Hk
  iapply (go_take m c 1 0 5 6 3) $$ H
  iintro H
  iapply (mv_fill c 4) $$ Hd
  iintro Hd
  iapply run_done
  iapply Hk
  isplitl [H]; · iexact H
  iexact Hd

theorem part13 (v2 v385 : BitVec 32) {Q : _ → sProp (MT nD τ sig Unit (Elt F) ℕ UU ℕ)} :
    iprop(records m K ∗ owing c (owedR c 3) ∗ own c (sSlot 4) (sendV m c 4) ∗ gift c 4 ∗ sndTok c 4 ∗ own c (wCol c 7) (wC m c 7) ∗ own c (wSlot 0) (wC3 m c 5) ∗ idle c (wS 0))
      ⊢ iprop((∀ r, iprop(owing c (owedR c 2) ∗ cred (tallyAt (sendCell c 4) () N) ∗ wFly m c 0 7) -∗ Q r) -∗ Run c (k0_part13_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 v385) Q) := by
  unfold k0_part13_skel
  simp only [Prog.lift, Prog.bind_op, Prog.bind_ret, Prog.pure_eq_ret]
  iintro H Hk
  iapply (go_send m K c 4 _ (send_devs c).2.2.2.2.1 (owedR c 3) (owedR c 2) rfl 0 5 7) $$ H
  iintro H
  iapply run_done
  iapply Hk
  iexact H

theorem part14 (v2 : BitVec 32) {Q : _ → sProp (MT nD τ sig Unit (Elt F) ℕ UU ℕ)} :
    iprop(iprop(levAts L lv ∗ wFly m c 1 6 ∗ owing c (owedR c 2) ∗ own c xM (xC m c)) ∗ some' c (sSlot 5))
      ⊢ iprop((∀ r, iprop(iprop(own c (wSlot 1) (wC3 m c 6) ∗ own c (wCol c 6) (wC m c 6) ∗ idle c (wS 1) ∗ owing c (owedR c 2) ∗ own c xM (xC m c))
            ∗ own c (sSlot 5) (sendV m c 5)) -∗ Q r)
          -∗ Run c (k0_part14_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c)) Q) := by
  unfold k0_part14_skel
  simp only [Prog.lift, Prog.bind_op, Prog.bind_ret, Prog.pure_eq_ret]
  iintro ⟨H, Hd⟩ Hk
  iapply (mv_take m c 1 6 2) $$ H
  iintro H
  iapply (mv_fill c 5) $$ Hd
  iintro Hd
  iapply run_done
  iapply Hk
  isplitl [H]; · iexact H
  iexact Hd

theorem part15 (v2 : BitVec 32) {Q : _ → sProp (MT nD τ sig Unit (Elt F) ℕ UU ℕ)} :
    iprop(iprop(records m K ∗ owing c (owedR c 2) ∗ own c (sSlot 5) (sendV m c 5) ∗ gift c 5 ∗ sndTok c 5
          ∗ own c (wCol c 0) (wC m c 0) ∗ own c (wSlot 1) (wC3 m c 6) ∗ idle c (wS 1))
        ∗ levAts L lv ∗ wFly m c 0 7 ∗ own c xM (xC m c))
      ⊢ iprop((iprop(iprop(cred (tallyAt (sendCell c 5) () N) ∗ wFly m c 1 0)
            ∗ own c (wSlot 0) (wC3 m c 7) ∗ own c (wCol c 7) (wC m c 7) ∗ idle c (wS 0) ∗ owing c (owedR c 1) ∗ own c xM (xC m c)) -∗ Q (k0_pay10 (scC m c) (xC m c) (wC3 m c 7)))
          -∗ Run c (k0_part15_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c)) Q) := by
  unfold k0_part15_skel
  simp only [Prog.lift, Prog.bind_op, Prog.bind_ret, Prog.pure_eq_ret]
  iintro ⟨H, Hl, Hf, Hx⟩ Hk
  iapply (go_send m K c 5 _ (send_devs c).2.2.2.2.2.1 (owedR c 2) (owedR c 1) rfl 1 6 0) $$ H
  iintro ⟨HO, H⟩
  iapply (mv_take m c 0 7 1) $$ [Hl Hf HO Hx]
  · isplitl [Hl]; · iexact Hl
    isplitl [Hf]; · iexact Hf
    isplitl [HO] <;> iassumption
  iintro H'
  iapply run_done
  iapply Hk
  isplitl [H]; · iexact H
  iexact H'

theorem part16 (v2 : BitVec 32) {Q : _ → sProp (MT nD τ sig Unit (Elt F) ℕ UU ℕ)} :
    iprop(iprop(records m K ∗ owing c (owedR c 1) ∗ some' c (sSlot 6) ∗ gift c 6 ∗ sndTok c 6) ∗ levAts L lv ∗ wFly m c 1 0)
      ⊢ iprop((∀ r, iprop(cred (tallyAt (sendCell c 6) () N) ∗ own c (wSlot 1) (wC3 m c 0) ∗ own c (wCol c 0) (wC m c 0) ∗ idle c (wS 1) ∗ owing c (owedR c 0)) -∗ Q r)
          -∗ Run c (k0_part16_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (k0_pay10 (scC m c) (xC m c) (wC3 m c 7))) Q) := by
  unfold k0_part16_skel
  simp only [Prog.lift, Prog.bind_op, Prog.bind_ret, Prog.pure_eq_ret]
  iintro ⟨H, Hl, Hf⟩ Hk
  iapply (go_fill m K c 6 _ (send_devs c).2.2.2.2.2.2 (owedR c 1) (owedR c 0) rfl rfl) $$ H
  iintro ⟨HO, H⟩
  iapply (mv_wawait m c 1 0 0) $$ [Hl Hf HO]
  · isplitl [Hl]; · iexact Hl
    isplitl [Hf] <;> iassumption
  iintro H'
  iapply run_done
  iapply Hk
  isplitl [H]; · iexact H
  iexact H'

end Cert.KernelIdeal.A2A

end
-- ==== Proof.Parts2.lean ====
/-
# The kernel's parts, from the own block on

The rest of the kernel: a device writes the block of its own rows, then, as they arrive, the seven blocks the other
devices sent it; last it waits for its own transfers' ends.
-/
module

public import proofs.«01_k».proof.Proof.Parts1
public import Idealize.ShloMosaic.Lib.Exec.Context

@[expose] public section

set_option maxRecDepth 8000
set_option maxHeartbeats 1000000

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- What device `c` waits with for the block of step `j`: a transfer's worth of credit, and its place in the cell. -/
abbrev rcvTok (j : Fin 7) : sProp 𝕄 := iprop(cred (tallyAt (recvCell c j) () N) ∗ atPos ER (recvCell c j) 0 ∅ 0)

theorem recv_step (j : Fin 7) {α : Type} {Q : α → sProp (MT nD τ sig Unit (Elt F) ℕ UU ℕ)}
    {sp : Space} {s : Shape} {e : EltTy} {srcw : Memref sig .tc sp s e} {hsrc : srcw.view.WordExact} {hdst : (rSq j).view.WordExact}
    {k : PUnit → Prog (TpuEff nD τ sig (Elt F) Λ₀ .tc) α} :
    iprop(records m K ∗ owing c 0 ∗ rcvTok c j)
      ⊢ iprop((iprop(owing c 0 ∗ semVal (recvCell c j) 0 ∗ recvPay m c j) -∗ Run c (k ⟨⟩) Q)
          -∗ Run c (.op (.waitDma2 (recvS j) srcw (rSq j) hsrc hdst) k) Q) := by
  iintro ⟨HR, HO, Hc, Ha⟩ Hk
  iapply (st_recv m K c j) $$ [HR HO Hc Ha]
  · isplitl [HR]; · iexact HR
    isplitl [Hc]; · iexact Hc
    isplitl [HO] <;> iassumption
  iexact Hk

/-- What device `c` waits with for the end of its own transfer of step `j`. -/
abbrev sntTok (j : Fin 7) : sProp 𝕄 := iprop(cred (tallyAt (sendCell c j) () N) ∗ atPos ER (sendCell c j) 0 ∅ 0)
/-- What that wait leaves: the semaphore at zero, the send slot back. -/
abbrev sntEnd (j : Fin 7) : sProp 𝕄 := iprop(semVal (sendCell c j) 0 ∗ sendPay m c j)

theorem sent_step (j : Fin 7) {α : Type} {Q : α → sProp (MT nD τ sig Unit (Elt F) ℕ UU ℕ)}
    {sp : Space} {s : Shape} {e : EltTy} {srcw : Memref sig .tc sp s e} {hsrc : srcw.view.WordExact} {hdst : (sSq j).view.WordExact}
    {k : PUnit → Prog (TpuEff nD τ sig (Elt F) Λ₀ .tc) α} :
    iprop(records m K ∗ owing c 0 ∗ sntTok c j)
      ⊢ iprop((iprop(owing c 0 ∗ sntEnd m c j) -∗ Run c (k ⟨⟩) Q)
          -∗ Run c (.op (.waitDma2 (sendS j) srcw (sSq j) hsrc hdst) k) Q) := by
  iintro ⟨HR, HO, Hc, Ha⟩ Hk
  iapply (st_sent m K c j) $$ [HR HO Hc Ha]
  · isplitl [HR]; · iexact HR
    isplitl [Hc]; · iexact Hc
    isplitl [HO] <;> iassumption
  iexact Hk

/-- Load the block received at step `j`. -/
theorem load_recv (j : Fin 7) {α : Type} {Q : α → sProp (MT nD τ sig Unit (Elt F) ℕ UU ℕ)} {hl : rvM.view.LoadsAt (sRect j).toLoadRect}
    {k : (S1x512x1024.Idx → Elt F .bf16) → Prog (TpuEff nD τ sig (Elt F) Λ₀ .tc) α} :
    recvPay m c j ⊢ iprop((recvPay m c j -∗ Run c (k (sendV m (bwd c j) j)) Q) -∗ Run c (.op (.load rvM (sRect j).toLoadRect hl) k) Q) :=
  st_load c (M := rvM) (r := sRect j) (hs := fun _ => rfl) (sendV m (bwd c j) j)

/-- Load the block received at step `j`, wait for staging slot `s` to be free again and fill it with the block's
    activation. -/
theorem go_place (s : Fin 2) (j : Fin 7) (dst : Memref sig .tc .hbm S512x1024 .f32) (V : S1x512x1024.Idx → Elt F .f32)
    {α : Type} {Q : α → sProp (MT nD τ sig Unit (Elt F) ℕ UU ℕ)}
    {w : (S1x512x1024.Idx → Elt F .bf16) → S1x512x1024.Idx → Elt F .f32} (hw : w (sendV m (bwd c j) j) = rowV m c j)
    {hl : rvM.view.LoadsAt (sRect j).toLoadRect} {sp' : Space} {s' : Shape} {e' : EltTy} {srcw : Memref sig .tc sp' s' e'} {hsrc : srcw.view.WordExact} {hdst : dst.view.WordExact}
    {hl' : sgM.view.LoadsAt (gRect s).toLoadRect}
    {hx : (sgM.access (gRect s)).Stores Finset.univ} {hm : (Finset.univ : Finset (gRect s).shape.Idx) = Finset.univ ∨ ∀ a, (gRect s).stride a = 1}
    {k : PUnit → Prog (TpuEff nD τ sig (Elt F) Λ₀ .tc) α} :
    iprop(levAts L lv ∗ recvPay m c j ∗ oFly c s dst V ∗ owing c 0)
      ⊢ iprop((iprop(recvPay m c j ∗ own c dst (fun i => V (Shape.reshapeEquiv squeezes_S1x512x1024_S512x1024.numel_eq i)) ∗ own c (gSlot s) (rowV m c j) ∗ idle c (oS s) ∗ owing c 0)
            -∗ Run c (k ⟨⟩) Q)
          -∗ Run c (.op (.load rvM (sRect j).toLoadRect hl) fun v => .op (.waitDma2 (oS s) srcw dst hsrc hdst) fun _ =>
              .op (.load sgM (gRect s).toLoadRect hl') fun _ => .op (.store sgM (gRect s) (w v) Finset.univ hx hm) k) Q) := by
  iintro ⟨Hl, Hr, Hf, HO⟩ Hk
  iapply (load_recv m c j) $$ Hr
  iintro Hr
  iapply (mv_oawait c s dst V) $$ [Hl Hf HO]
  · isplitl [Hl]; · iexact Hl
    isplitl [Hf] <;> iassumption
  iintro ⟨Hd, Hg, Hz, HO⟩
  iapply (mv_stage c s) $$ [Hg]
  · iexists V; iexact Hg
  rw [hw]
  iintro Hg
  iapply Hk
  isplitl [Hr]; · iexact Hr
  isplitl [Hd]; · iexact Hd
  isplitl [Hg]; · iexact Hg
  isplitl [Hz] <;> iassumption

theorem part17 (v2 v157 : BitVec 32) {Q : _ → sProp (MT nD τ sig Unit (Elt F) ℕ UU ℕ)} :
    iprop(own c xM (xC m c) ∗ own c (wSlot 1) (wC3 m c 0) ∗ some' c (gSlot 0) ∗ some' c (oOwn c) ∗ idle c (oS 0) ∗ records m K ∗ owing c 0 ∗ rcvTok c 0)
      ⊢ iprop((∀ r₁, ∀ r₂, ∀ r₃, iprop(own c xM (xC m c) ∗ own c (wSlot 1) (wC3 m c 0) ∗ oFly c 0 (oOwn c) (ownV m c) ∗ owing c 0 ∗ semVal (recvCell c 0) 0 ∗ recvPay m c 0)
            -∗ Q ⟨r₁, r₂, r₃⟩)
          -∗ Run c (k0_part17_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 (scC m c) v157) Q) := by
  unfold k0_part17_skel
  simp only [Prog.lift, Prog.bind_op, Prog.bind_ret, Prog.pure_eq_ret]
  iintro ⟨Hx, Hw, Hg, Hd, Hz, HR, HO, Ht⟩ Hk
  iapply (st_load_whole c (xC m c)) $$ Hx
  iintro Hx
  iapply (st_load c (wC3 m c 0)) $$ Hw
  iintro Hw
  iapply (mv_stage c 0) $$ Hg
  iintro Hg
  iapply (mv_ostart c 0 (oOwn c) (ownV m c)) $$ [Hg Hd Hz]
  · isplitl [Hg]; · iexact Hg
    isplitl [Hd] <;> iassumption
  iintro Hf
  iapply (recv_step m K c 0) $$ [HR HO Ht]
  · isplitl [HR]; · iexact HR
    isplitl [HO] <;> iassumption
  iintro H
  iapply run_done
  iapply Hk
  isplitl [Hx]; · iexact Hx
  isplitl [Hw]; · iexact Hw
  isplitl [Hf] <;> iassumption

theorem part18 (v2 v214 v546 c8 : BitVec 32) (v547 : BitVec 1) {Q : _ → sProp (MT nD τ sig Unit (Elt F) ℕ UU ℕ)} :
    iprop(recvPay m c 0 ∗ some' c (gSlot 1) ∗ some' c (oRow c 0) ∗ idle c (oS 1) ∗ records m K ∗ owing c 0 ∗ rcvTok c 1)
      ⊢ iprop((∀ r, iprop(recvPay m c 0 ∗ oFly c 1 (oRow c 0) (rowV m c 0) ∗ owing c 0 ∗ semVal (recvCell c 1) 0 ∗ recvPay m c 1) -∗ Q r)
          -∗ Run c (k0_part18_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 v214 v546 c8 v547) Q) := by
  unfold k0_part18_skel
  simp only [Prog.lift, Prog.bind_op, Prog.bind_ret, Prog.pure_eq_ret]
  iintro ⟨Hr, Hg, Hd, Hz, HR, HO, Ht⟩ Hk
  iapply (load_recv m c 0) $$ Hr
  iintro Hr
  iapply (mv_stage c 1) $$ Hg
  iintro Hg
  iapply (mv_ostart c 1 (oRow c 0) (rowV m c 0)) $$ [Hg Hd Hz]
  · isplitl [Hg]; · iexact Hg
    isplitl [Hd] <;> iassumption
  iintro Hf
  iapply (recv_step m K c 1) $$ [HR HO Ht]
  · isplitl [HR]; · iexact HR
    isplitl [HO] <;> iassumption
  iintro H
  iapply run_done
  iapply Hk
  isplitl [Hr]; · iexact Hr
  isplitl [Hf] <;> iassumption

theorem part19 (v271 v577 : BitVec 32) {Q : _ → sProp (MT nD τ sig Unit (Elt F) ℕ UU ℕ)} :
    iprop(iprop(levAts L lv ∗ recvPay m c 1 ∗ oFly c 0 (oOwn c) (ownV m c) ∗ owing c 0) ∗ some' c (oRow c 1))
      ⊢ iprop((∀ r₁, ∀ r₂, iprop(recvPay m c 1 ∗ own c (oOwn c) (ownV2 m c) ∗ oFly c 0 (oRow c 1) (rowV m c 1) ∗ owing c 0) -∗ Q ⟨r₁, r₂⟩)
          -∗ Run c (k0_part19_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v271 v577) Q) := by
  unfold k0_part19_skel
  simp only [Prog.lift, Prog.bind_op, Prog.bind_ret, Prog.pure_eq_ret]
  iintro ⟨H, Hd⟩ Hk
  iapply (go_place m c 0 1 (oOwn c) (ownV m c) rfl) $$ H
  iintro ⟨Hr, Hv, Hg, Hz, HO⟩
  iapply (mv_ostart c 0 (oRow c 1) (rowV m c 1)) $$ [Hg Hd Hz]
  · isplitl [Hg]; · iexact Hg
    isplitl [Hd] <;> iassumption
  iintro Hf
  iapply run_done
  iapply Hk
  isplitl [Hr]; · iexact Hr
  isplitl [Hv]; · iexact Hv
  isplitl [Hf] <;> iassumption

theorem part20 (v2 v605 c0 : BitVec 32) {Q : _ → sProp (MT nD τ sig Unit (Elt F) ℕ UU ℕ)} :
    iprop(iprop(records m K ∗ owing c 0 ∗ rcvTok c 2) ∗ levAts L lv ∗ oFly c 1 (oRow c 0) (rowV m c 0))
      ⊢ iprop((∀ r, iprop(semVal (recvCell c 2) 0 ∗ recvPay m c 2 ∗ own c (oRow c 0) (rowV2 m c 0) ∗ own c (gSlot 1) (rowV m c 2) ∗ idle c (oS 1) ∗ owing c 0) -∗ Q r)
          -∗ Run c (k0_part20_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 v605 c0) Q) := by
  unfold k0_part20_skel
  simp only [Prog.lift, Prog.bind_op, Prog.bind_ret, Prog.pure_eq_ret]
  iintro ⟨H, Hl, Hf⟩ Hk
  iapply (recv_step m K c 2) $$ H
  iintro ⟨HO, Hv, Hr⟩
  iapply (go_place m c 1 2 (oRow c 0) (rowV m c 0) rfl) $$ [Hl Hr Hf HO]
  · isplitl [Hl]; · iexact Hl
    isplitl [Hr]; · iexact Hr
    isplitl [Hf] <;> iassumption
  iintro H
  iapply run_done
  iapply Hk
  isplitl [Hv]; · iexact Hv
  iexact H

theorem part21 (v2 v328 : BitVec 32) {Q : _ → sProp (MT nD τ sig Unit (Elt F) ℕ UU ℕ)} :
    iprop(iprop(own c (gSlot 1) (rowV m c 2) ∗ some' c (oRow c 2) ∗ idle c (oS 1)) ∗ records m K ∗ owing c 0 ∗ rcvTok c 3)
      ⊢ iprop((iprop(oFly c 1 (oRow c 2) (rowV m c 2) ∗ owing c 0 ∗ semVal (recvCell c 3) 0 ∗ recvPay m c 3) -∗ Q (k0_pay16 (sendV m (bwd c 3) 3)))
          -∗ Run c (k0_part21_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 v328) Q) := by
  unfold k0_part21_skel
  simp only [Prog.lift, Prog.bind_op, Prog.bind_ret, Prog.pure_eq_ret]
  iintro ⟨H, HR⟩ Hk
  iapply (mv_ostart c 1 (oRow c 2) (rowV m c 2)) $$ H
  iintro Hf
  iapply (recv_step m K c 3) $$ HR
  iintro ⟨HO, Hv, Hr⟩
  iapply (load_recv m c 3) $$ Hr
  iintro Hr
  iapply run_done
  iapply Hk
  isplitl [Hf]; · iexact Hf
  isplitl [HO]; · iexact HO
  isplitl [Hv] <;> iassumption

theorem part22 (v2 v385 : BitVec 32) {Q : _ → sProp (MT nD τ sig Unit (Elt F) ℕ UU ℕ)} :
    iprop(iprop(levAts L lv ∗ oFly c 0 (oRow c 1) (rowV m c 1) ∗ owing c 0) ∗ some' c (oRow c 3) ∗ records m K ∗ rcvTok c 4)
      ⊢ iprop((∀ r, iprop(own c (oRow c 1) (rowV2 m c 1) ∗ oFly c 0 (oRow c 3) (rowV m c 3) ∗ owing c 0 ∗ semVal (recvCell c 4) 0 ∗ recvPay m c 4) -∗ Q r)
          -∗ Run c (k0_part22_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 v385 (k0_pay16 (sendV m (bwd c 3) 3))) Q) := by
  unfold k0_part22_skel
  simp only [Prog.lift, Prog.bind_op, Prog.bind_ret, Prog.pure_eq_ret]
  iintro ⟨H, Hd, HR, Ht⟩ Hk
  iapply (mv_oawait c 0 (oRow c 1) (rowV m c 1)) $$ H
  iintro ⟨Hv, Hg, Hz, HO⟩
  iapply (mv_stage c 0) $$ [Hg]
  · iexists _; iexact Hg
  iintro Hg
  iapply (mv_ostart c 0 (oRow c 3) (rowV m c 3)) $$ [Hg Hd Hz]
  · isplitl [Hg]; · iexact Hg
    isplitl [Hd] <;> iassumption
  iintro Hf
  iapply (recv_step m K c 4) $$ [HR HO Ht]
  · isplitl [HR]; · iexact HR
    isplitl [HO] <;> iassumption
  iintro H
  iapply run_done
  iapply Hk
  isplitl [Hv]; · iexact Hv
  isplitl [Hf] <;> iassumption

theorem part23 (v2 v442 : BitVec 32) {Q : _ → sProp (MT nD τ sig Unit (Elt F) ℕ UU ℕ)} :
    iprop(iprop(levAts L lv ∗ recvPay m c 4 ∗ oFly c 1 (oRow c 2) (rowV m c 2) ∗ owing c 0) ∗ some' c (oRow c 4) ∗ records m K ∗ rcvTok c 5)
      ⊢ iprop((∀ r₁, ∀ r₂, ∀ r₃, ∀ r₄, iprop(recvPay m c 4 ∗ own c (oRow c 2) (rowV2 m c 2) ∗ oFly c 1 (oRow c 4) (rowV m c 4) ∗ owing c 0 ∗ semVal (recvCell c 5) 0 ∗ recvPay m c 5)
            -∗ Q ⟨r₁, r₂, r₃, r₄⟩)
          -∗ Run c (k0_part23_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2 v442) Q) := by
  unfold k0_part23_skel
  simp only [Prog.lift, Prog.bind_op, Prog.bind_ret, Prog.pure_eq_ret]
  iintro ⟨H, Hd, HR, Ht⟩ Hk
  iapply (go_place m c 1 4 (oRow c 2) (rowV m c 2) rfl) $$ H
  iintro ⟨Hr, Hv, Hg, Hz, HO⟩
  iapply (mv_ostart c 1 (oRow c 4) (rowV m c 4)) $$ [Hg Hd Hz]
  · isplitl [Hg]; · iexact Hg
    isplitl [Hd] <;> iassumption
  iintro Hf
  iapply (recv_step m K c 5) $$ [HR HO Ht]
  · isplitl [HR]; · iexact HR
    isplitl [HO] <;> iassumption
  iintro H
  iapply run_done
  iapply Hk
  isplitl [Hr]; · iexact Hr
  isplitl [Hv]; · iexact Hv
  isplitl [Hf] <;> iassumption

theorem part24 (v499 v721 c8 : BitVec 32) (v722 : BitVec 1) (c1 : BitVec 32) {Q : _ → sProp (MT nD τ sig Unit (Elt F) ℕ UU ℕ)} :
    iprop(iprop(levAts L lv ∗ recvPay m c 5 ∗ oFly c 0 (oRow c 3) (rowV m c 3) ∗ owing c 0) ∗ some' c (oRow c 5))
      ⊢ iprop((∀ r, iprop(recvPay m c 5 ∗ own c (oRow c 3) (rowV2 m c 3) ∗ oFly c 0 (oRow c 5) (rowV m c 5) ∗ owing c 0) -∗ Q r)
          -∗ Run c (k0_part24_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v499 v721 c8 v722 c1) Q) := by
  unfold k0_part24_skel
  simp only [Prog.lift, Prog.bind_op, Prog.bind_ret, Prog.pure_eq_ret]
  iintro ⟨H, Hd⟩ Hk
  iapply (go_place m c 0 5 (oRow c 3) (rowV m c 3) rfl) $$ H
  iintro ⟨Hr, Hv, Hg, Hz, HO⟩
  iapply (mv_ostart c 0 (oRow c 5) (rowV m c 5)) $$ [Hg Hd Hz]
  · isplitl [Hg]; · iexact Hg
    isplitl [Hd] <;> iassumption
  iintro Hf
  iapply run_done
  iapply Hk
  isplitl [Hr]; · iexact Hr
  isplitl [Hv]; · iexact Hv
  isplitl [Hf] <;> iassumption

theorem part25 (v2 : BitVec 32) {Q : _ → sProp (MT nD τ sig Unit (Elt F) ℕ UU ℕ)} :
    iprop(iprop(records m K ∗ owing c 0 ∗ rcvTok c 6) ∗ levAts L lv ∗ oFly c 1 (oRow c 4) (rowV m c 4))
      ⊢ iprop((∀ r, iprop(semVal (recvCell c 6) 0 ∗ recvPay m c 6 ∗ own c (oRow c 4) (rowV2 m c 4) ∗ own c (gSlot 1) (rowV m c 6) ∗ idle c (oS 1) ∗ owing c 0) -∗ Q r)
          -∗ Run c (k0_part25_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c v2) Q) := by
  unfold k0_part25_skel
  simp only [Prog.lift, Prog.bind_op, Prog.bind_ret, Prog.pure_eq_ret]
  iintro ⟨H, Hl, Hf⟩ Hk
  iapply (recv_step m K c 6) $$ H
  iintro ⟨HO, Hv, Hr⟩
  iapply (go_place m c 1 6 (oRow c 4) (rowV m c 4) rfl) $$ [Hl Hr Hf HO]
  · isplitl [Hl]; · iexact Hl
    isplitl [Hr]; · iexact Hr
    isplitl [Hf] <;> iassumption
  iintro H
  iapply run_done
  iapply Hk
  isplitl [Hv]; · iexact Hv
  iexact H

theorem part26 {Q : _ → sProp (MT nD τ sig Unit (Elt F) ℕ UU ℕ)} :
    iprop(records m K ∗ levAts L lv ∗ iprop(own c (gSlot 1) (rowV m c 6) ∗ some' c (oRow c 6) ∗ idle c (oS 1)) ∗ oFly c 0 (oRow c 5) (rowV m c 5) ∗ owing c 0 ∗ sntTok c 0 ∗ sntTok c 1)
      ⊢ iprop((∀ r, iprop(owing c 0 ∗ sntEnd m c 0 ∗ sntEnd m c 1 ∗ own c (oRow c 5) (rowV2 m c 5) ∗ own c (oRow c 6) (rowV2 m c 6)
            ∗ own c (gSlot 0) (rowV m c 5) ∗ own c (gSlot 1) (rowV m c 6) ∗ idle c (oS 0) ∗ idle c (oS 1)) -∗ Q r)
          -∗ Run c (k0_part26_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7 c) Q) := by
  unfold k0_part26_skel
  simp only [Prog.lift, Prog.bind_op, Prog.bind_ret, Prog.pure_eq_ret]
  iintro ⟨#HR, #Hl, H, Hf, HO, H0, H1⟩ Hk
  iapply (mv_ostart c 1 (oRow c 6) (rowV m c 6)) $$ H
  iintro Hf'
  iapply (mv_oawait c 0 (oRow c 5) (rowV m c 5)) $$ [Hf HO]
  · isplitr; · iexact Hl
    isplitl [Hf] <;> iassumption
  iintro ⟨Hv, Hg, Hz, HO⟩
  iapply (mv_oawait c 1 (oRow c 6) (rowV m c 6)) $$ [Hf' HO]
  · isplitr; · iexact Hl
    isplitl [Hf'] <;> iassumption
  iintro ⟨Hv', Hg', Hz', HO⟩
  iapply (sent_step m K c 0) $$ [HO H0]
  · isplitr; · iexact HR
    isplitl [HO] <;> iassumption
  iintro ⟨HO, H0⟩
  iapply (sent_step m K c 1) $$ [HO H1]
  · isplitr; · iexact HR
    isplitl [HO] <;> iassumption
  iintro ⟨HO, H1⟩
  iapply run_done
  iapply Hk
  isplitl [HO]; · iexact HO
  isplitl [H0]; · iexact H0
  isplitl [H1]; · iexact H1
  isplitl [Hv]; · iexact Hv
  isplitl [Hv']; · iexact Hv'
  isplitl [Hg]; · iexact Hg
  isplitl [Hg']; · iexact Hg'
  isplitl [Hz] <;> iassumption

theorem part27 {Q : _ → sProp (MT nD τ sig Unit (Elt F) ℕ UU ℕ)} :
    iprop(records m K ∗ owing c 0 ∗ sntTok c 2 ∗ sntTok c 3 ∗ sntTok c 4)
      ⊢ iprop((∀ r, iprop(owing c 0 ∗ sntEnd m c 2 ∗ sntEnd m c 3 ∗ sntEnd m c 4) -∗ Q r) -∗ Run c (k0_part27_skel xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7) Q) := by
  unfold k0_part27_skel
  simp only [Prog.lift, Prog.bind_op, Prog.bind_ret, Prog.pure_eq_ret]
  iintro ⟨#HR, HO, H2, H3, H4⟩ Hk
  iapply (sent_step m K c 2) $$ [HO H2]
  · isplitr; · iexact HR
    isplitl [HO] <;> iassumption
  iintro ⟨HO, H2⟩
  iapply (sent_step m K c 3) $$ [HO H3]
  · isplitr; · iexact HR
    isplitl [HO] <;> iassumption
  iintro ⟨HO, H3⟩
  iapply (sent_step m K c 4) $$ [HO H4]
  · isplitr; · iexact HR
    isplitl [HO] <;> iassumption
  iintro ⟨HO, H4⟩
  iapply run_done
  iapply Hk
  isplitl [HO]; · iexact HO
  isplitl [H2]; · iexact H2
  isplitl [H3] <;> iassumption

end Cert.KernelIdeal.A2A

end
-- ==== Proof.Body.lean ====
/-
# The kernel on one device

The parts one after another: from what a device holds at the start of the kernel to what it holds at the end.
-/
module

public import proofs.«01_k».proof.Proof.Parts2

@[expose] public section

set_option maxRecDepth 8000
set_option maxHeartbeats 1000000

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What device `c` holds as the kernel starts: its debts, tokens and credit; its inputs; the scratch buffers by slots
    and the result by blocks, at any contents; its copies' counters at zero. -/
def entry : sProp 𝕄 :=
  iprop((owing c (owedB c 7) ∗ cred (tallyAt (barCell c) () 7) ∗ atPos ER (barCell c) 0 ∅ 0)
    ∗ (bigSep Finset.univ fun j => sigTok c j) ∗ (bigSep Finset.univ fun j => sndTok c j) ∗ (bigSep Finset.univ fun j => rcvTok c j)
    ∗ (bigSep Finset.univ fun j => atPos ER (sendCell c j) 0 ∅ 0)
    ∗ (own c xM (xC m c) ∗ own c aM (aC m c) ∗ own c bM (bC m c))
    ∗ (bigSep Finset.univ fun r => own c (wCol c r) (wC m c r))
    ∗ (some' c (wSlot 0) ∗ some' c (wSlot 1)) ∗ (bigSep Finset.univ fun j => some' c (sSlot j)) ∗ (some' c (gSlot 0) ∗ some' c (gSlot 1))
    ∗ (some' c (oOwn c) ∗ bigSep Finset.univ fun j => some' c (oRow c j))
    ∗ (idle c (wS 0) ∗ idle c (wS 1) ∗ idle c (oS 0) ∗ idle c (oS 1)))

/-- What it holds at the end: no debts, every cell's semaphore at zero again, the inputs as they were, the result's
    blocks at what they are to be. -/
def exit : sProp 𝕄 :=
  iprop(owing c 0 ∗ semVal (barCell c) 0
    ∗ (own c xM (xC m c) ∗ own c aM (aC m c) ∗ own c bM (bC m c))
    ∗ (bigSep Finset.univ fun r => own c (wCol c r) (wC m c r))
    ∗ (own c (wSlot 0) (wC3 m c 7) ∗ own c (wSlot 1) (wC3 m c 0))
    ∗ (bigSep Finset.univ fun j => sntEnd m c j) ∗ (bigSep Finset.univ fun j => iprop(semVal (recvCell c j) 0 ∗ recvPay m c j))
    ∗ (own c (gSlot 0) (rowV m c 5) ∗ own c (gSlot 1) (rowV m c 6))
    ∗ (own c (oOwn c) (ownV2 m c) ∗ bigSep Finset.univ fun j => own c (oRow c j) (rowV2 m c j))
    ∗ (idle c (wS 0) ∗ idle c (wS 1) ∗ idle c (oS 0) ∗ idle c (oS 1)))

theorem run_bind {α β : Type} {p : Prog (TpuEff nD τ sig (Elt F) Λ₀ .tc) β} {k : β → Prog (TpuEff nD τ sig (Elt F) Λ₀ .tc) α}
    {Q : α → sProp (MT nD τ sig Unit (Elt F) ℕ UU ℕ)} : Run c p (fun a => Run c (k a) Q) ⊢ Run c (p >>= k) Q := by
  unfold Run; exact Entails.of_eq (wp_bind ..).symm

theorem body {Q : PUnit → sProp (MT nD τ sig Unit (Elt F) ℕ UU ℕ)} :
    iprop(records m K ∗ levAts L lv ∗ entry m c) ⊢ iprop((exit m c -∗ Q ⟨⟩) -∗ Run c (cc0_body xM (Memref.isWhole_whole _) wM (Memref.isWhole_whole _) aM (Memref.isWhole_whole _) bM (Memref.isWhole_whole _) oM (Memref.isWhole_whole _) wvM (Memref.isWhole_whole _) sdM (Memref.isWhole_whole _) rvM (Memref.isWhole_whole _) sgM (Memref.isWhole_whole _) cc0_scratch4 cc0_scratch5 cc0_scratch6 cc0_scratch7) Q) := by
  rw [cc0_body_eq_skeleton]
  unfold cc0_body_skel entry exit
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  rw [seven (fun j => sigTok c j), seven (fun j => sndTok c j), seven (fun j => rcvTok c j), seven (fun j => atPos ER (sendCell c j) 0 ∅ 0),
    eight, seven (fun j => some' c (sSlot j)), seven (fun j => some' c (oRow c j)), seven (fun j => sntEnd m c j),
    seven (fun j => iprop(semVal (recvCell c j) 0 ∗ recvPay m c j)), seven (fun j => own c (oRow c j) (rowV2 m c j))]
  iintro ⟨#HR, #Hl, ⟨HO, Hbc, Hba⟩, ⟨G0, G1, G2, G3, G4, G5, G6⟩, ⟨T0, T1, T2, T3, T4, T5, T6⟩, ⟨R0, R1, R2, R3, R4, R5, R6⟩,
    ⟨A0, A1, A2, A3, A4, A5, A6⟩, ⟨Hx, Ha, Hb⟩, ⟨W0, W1, W2, W3, W4, W5, W6, W7⟩, ⟨V0, V1⟩, ⟨S0, S1, S2, S3, S4, S5, S6⟩, ⟨P0, P1⟩,
    ⟨D, D0, D1, D2, D3, D4, D5, D6⟩, ⟨Z0, Z1, Y0, Y1⟩⟩ Hk
  iapply run_bind
  iapply (part1 m c) $$ [W1 V0 Z0]
  · isplitl [W1]; · iexact W1
    isplitl [V0]; · iexact V0
    iexact Z0
  iintro %v2 %v32 %c0 F0
  dsimp only
  iapply run_bind
  iapply (part2 m K c v2 v32 c0) $$ [HO G0 G1 G2]
  · isplitr; · iexact HR
    isplitl [HO]; · iexact HO
    isplitl [G0]; · iexact G0
    isplitl [G1]; · iexact G1
    iexact G2
  iintro %a1 %a2 %a3 HO
  dsimp only
  iapply run_bind
  iapply (part3 m K c v2 a1 a2 a3) $$ [HO G3 G4]
  · isplitr; · iexact HR
    isplitl [HO]; · iexact HO
    isplitl [G3]; · iexact G3
    iexact G4
  iintro %b1 %b2 HO
  dsimp only
  iapply run_bind
  iapply (part4 m K c v2 b1 b2) $$ [HO G5 G6 Hbc Hba Ha Hb]
  · isplitr; · iexact HR
    isplitr; · iexact Hl
    isplitl [HO]; · iexact HO
    isplitl [G5]; · iexact G5
    isplitl [G6]; · iexact G6
    isplitl [Hbc]; · iexact Hbc
    isplitl [Hba]; · iexact Hba
    isplitl [Ha]; · iexact Ha
    iexact Hb
  iintro ⟨HO, Hbz, Hgift, Ha, Hb⟩
  ihave Hgift' := (Entails.of_eq (seven fun d : Fin 7 => gift c d.rev)) $$ Hgift
  icases Hgift' with ⟨H6, H5, H4, H3, H2, H1, H0⟩
  iapply run_bind
  iapply (part5 m c v2) $$ [W2 V1 Z1 F0 HO Hx S0]
  · isplitl [W2 V1 Z1 F0 HO Hx]
    · isplitr; · iexact Hl
      isplitl [W2]; · iexact W2
      isplitl [V1]; · iexact V1
      isplitl [Z1]; · iexact Z1
      isplitl [F0]; · iexact F0
      isplitl [HO]; · iexact HO
      iexact Hx
    iexact S0
  iintro %v157 ⟨⟨F1, V0, W1, Z0, HO, Hx⟩, S0⟩
  iapply run_bind
  iapply (part6 m K c v2 v157) $$ [HO S0 H0 T0 W3 V0 Z0]
  · isplitr; · iexact HR
    isplitl [HO]; · iexact HO
    isplitl [S0]; · iexact S0
    isplitl [H0]; · iexact H0
    isplitl [T0]; · iexact T0
    isplitl [W3]; · iexact W3
    isplitl [V0]; · iexact V0
    iexact Z0
  iintro %r6 ⟨HO, C0, F0⟩
  iapply run_bind
  iapply (part7 m c v2) $$ [F1 HO Hx S1]
  · isplitl [F1 HO Hx]
    · isplitr; · iexact Hl
      isplitl [F1]; · iexact F1
      isplitl [HO]; · iexact HO
      iexact Hx
    iexact S1
  iintro %v214 ⟨⟨V1, W2, Z1, HO, Hx⟩, S1⟩
  iapply run_bind
  iapply (part8 m K c v2) $$ [HO S1 H1 T1 W4 V1 Z1 F0 Hx]
  · isplitl [HO S1 H1 T1 W4 V1 Z1]
    · isplitr; · iexact HR
      isplitl [HO]; · iexact HO
      isplitl [S1]; · iexact S1
      isplitl [H1]; · iexact H1
      isplitl [T1]; · iexact T1
      isplitl [W4]; · iexact W4
      isplitl [V1]; · iexact V1
      iexact Z1
    isplitr; · iexact Hl
    isplitl [F0]; · iexact F0
    iexact Hx
  iintro ⟨⟨C1, F1⟩, V0, W3, Z0, HO, Hx⟩
  iapply run_bind
  iapply (part9 m K c v2) $$ [HO S2 H2 T2]
  · isplitr; · iexact HR
    isplitl [HO]; · iexact HO
    isplitl [S2]; · iexact S2
    isplitl [H2]; · iexact H2
    iexact T2
  iintro %d1 %d2 %d3 %d4 %d5 ⟨HO, C2⟩
  dsimp only
  iapply run_bind
  iapply (part10 m c v2 d2 d3 d4 d5) $$ [W5 V0 Z0 F1 HO Hx]
  · isplitr; · iexact Hl
    isplitl [W5]; · iexact W5
    isplitl [V0]; · (iexists _; iexact V0)
    isplitl [Z0]; · iexact Z0
    isplitl [F1]; · iexact F1
    isplitl [HO]; · iexact HO
    iexact Hx
  iintro %q1 %q2 %q3 %q4 %q5 ⟨F0, V1, W4, Z1, HO, Hx⟩
  dsimp only
  iapply run_bind
  iapply (part11 m K c v2 q1 q2 q3 q4 q5) $$ [HO S3 H3 T3]
  · isplitr; · iexact HR
    isplitl [HO]; · iexact HO
    isplitl [S3]; · iexact S3
    isplitl [H3]; · iexact H3
    iexact T3
  iintro %v328 ⟨HO, C3⟩
  iapply run_bind
  iapply (part12 m c v2) $$ [W6 V1 Z1 F0 HO Hx S4]
  · isplitl [W6 V1 Z1 F0 HO Hx]
    · isplitr; · iexact Hl
      isplitl [W6]; · iexact W6
      isplitl [V1]; · (iexists _; iexact V1)
      isplitl [Z1]; · iexact Z1
      isplitl [F0]; · iexact F0
      isplitl [HO]; · iexact HO
      iexact Hx
    iexact S4
  iintro %v385 ⟨⟨F1, V0, W5, Z0, HO, Hx⟩, S4⟩
  iapply run_bind
  iapply (part13 m K c v2 v385) $$ [HO S4 H4 T4 W7 V0 Z0]
  · isplitr; · iexact HR
    isplitl [HO]; · iexact HO
    isplitl [S4]; · iexact S4
    isplitl [H4]; · iexact H4
    isplitl [T4]; · iexact T4
    isplitl [W7]; · iexact W7
    isplitl [V0]; · iexact V0
    iexact Z0
  iintro %r13 ⟨HO, C4, F0⟩
  iapply run_bind
  iapply (part14 m c v2) $$ [F1 HO Hx S5]
  · isplitl [F1 HO Hx]
    · isplitr; · iexact Hl
      isplitl [F1]; · iexact F1
      isplitl [HO]; · iexact HO
      iexact Hx
    iexact S5
  iintro %v442 ⟨⟨V1, W6, Z1, HO, Hx⟩, S5⟩
  iapply run_bind
  iapply (part15 m K c v2) $$ [HO S5 H5 T5 W0 V1 Z1 F0 Hx]
  · isplitl [HO S5 H5 T5 W0 V1 Z1]
    · isplitr; · iexact HR
      isplitl [HO]; · iexact HO
      isplitl [S5]; · iexact S5
      isplitl [H5]; · iexact H5
      isplitl [T5]; · iexact T5
      isplitl [W0]; · iexact W0
      isplitl [V1]; · iexact V1
      iexact Z1
    isplitr; · iexact Hl
    isplitl [F0]; · iexact F0
    iexact Hx
  iintro ⟨⟨C5, F1⟩, V0, W7, Z0, HO, Hx⟩
  iapply run_bind
  iapply (part16 m K c v2) $$ [HO S6 H6 T6 F1]
  · isplitl [HO S6 H6 T6]
    · isplitr; · iexact HR
      isplitl [HO]; · iexact HO
      isplitl [S6]; · iexact S6
      isplitl [H6]; · iexact H6
      iexact T6
    isplitr; · iexact Hl
    iexact F1
  iintro %v499 ⟨C6, V1, W0, Z1, HO⟩
  iapply run_bind
  iapply (part17 m K c v2 v157) $$ [Hx V1 P0 D Y0 HO R0]
  · isplitl [Hx]; · iexact Hx
    isplitl [V1]; · iexact V1
    isplitl [P0]; · iexact P0
    isplitl [D]; · iexact D
    isplitl [Y0]; · iexact Y0
    isplitr; · iexact HR
    isplitl [HO]; · iexact HO
    iexact R0
  iintro %v546 %c8 %v547 ⟨Hx, V1, F0, HO, E0, R0⟩
  dsimp only
  iapply run_bind
  iapply (part18 m K c v2 v214 v546 c8 v547) $$ [R0 P1 D0 Y1 HO R1]
  · isplitl [R0]; · iexact R0
    isplitl [P1]; · iexact P1
    isplitl [D0]; · iexact D0
    isplitl [Y1]; · iexact Y1
    isplitr; · iexact HR
    isplitl [HO]; · iexact HO
    iexact R1
  iintro %v577 ⟨R0, F1, HO, E1, R1⟩
  iapply run_bind
  iapply (part19 m c d1 v577) $$ [R1 F0 HO D1]
  · isplitl [R1 F0 HO]
    · isplitr; · iexact Hl
      isplitl [R1]; · iexact R1
      isplitl [F0]; · iexact F0
      iexact HO
    iexact D1
  iintro %v605 %c0b ⟨R1, D, F0, HO⟩
  dsimp only
  iapply run_bind
  iapply (part20 m K c v2 v605 c0b) $$ [HO R2 F1]
  · isplitl [HO R2]
    · isplitr; · iexact HR
      isplitl [HO]; · iexact HO
      iexact R2
    isplitr; · iexact Hl
    iexact F1
  iintro %r20 ⟨E2, R2, D0, P1, Y1, HO⟩
  iapply run_bind
  iapply (part21 m K c v2 v328) $$ [P1 D2 Y1 HO R3]
  · isplitl [P1 D2 Y1]
    · isplitl [P1]; · iexact P1
      isplitl [D2]; · iexact D2
      iexact Y1
    isplitr; · iexact HR
    isplitl [HO]; · iexact HO
    iexact R3
  iintro ⟨F1, HO, E3, R3⟩
  iapply run_bind
  iapply (part22 m K c v2 v385) $$ [F0 HO D3 R4]
  · isplitl [F0 HO]
    · isplitr; · iexact Hl
      isplitl [F0]; · iexact F0
      iexact HO
    isplitl [D3]; · iexact D3
    isplitr; · iexact HR
    iexact R4
  iintro %r22 ⟨D1, F0, HO, E4, R4⟩
  iapply run_bind
  iapply (part23 m K c v2 v442) $$ [R4 F1 HO D4 R5]
  · isplitl [R4 F1 HO]
    · isplitr; · iexact Hl
      isplitl [R4]; · iexact R4
      isplitl [F1]; · iexact F1
      iexact HO
    isplitl [D4]; · iexact D4
    isplitr; · iexact HR
    iexact R5
  iintro %v721 %c8b %v722 %c1b ⟨R4, D2, F1, HO, E5, R5⟩
  dsimp only
  iapply run_bind
  iapply (part24 m c v499 v721 c8b v722 c1b) $$ [R5 F0 HO D5]
  · isplitl [R5 F0 HO]
    · isplitr; · iexact Hl
      isplitl [R5]; · iexact R5
      isplitl [F0]; · iexact F0
      iexact HO
    iexact D5
  iintro %r24 ⟨R5, D3, F0, HO⟩
  iapply run_bind
  iapply (part25 m K c v2) $$ [HO R6 F1]
  · isplitl [HO R6]
    · isplitr; · iexact HR
      isplitl [HO]; · iexact HO
      iexact R6
    isplitr; · iexact Hl
    iexact F1
  iintro %r25 ⟨E6, R6, D4, P1, Y1, HO⟩
  iapply run_bind
  iapply (part26 m K c) $$ [P1 D6 Y1 F0 HO C0 A0 C1 A1]
  · isplitr; · iexact HR
    isplitr; · iexact Hl
    isplitl [P1 D6 Y1]
    · isplitl [P1]; · iexact P1
      isplitl [D6]; · iexact D6
      iexact Y1
    isplitl [F0]; · iexact F0
    isplitl [HO]; · iexact HO
    isplitl [C0 A0]
    · isplitl [C0]; · iexact C0
      iexact A0
    isplitl [C1]; · iexact C1
    iexact A1
  iintro %r26 ⟨HO, K0, K1, D5, D6, P0, P1, Y0, Y1⟩
  iapply run_bind
  iapply (part27 m K c) $$ [HO C2 A2 C3 A3 C4 A4]
  · isplitr; · iexact HR
    isplitl [HO]; · iexact HO
    isplitl [C2 A2]
    · isplitl [C2]; · iexact C2
      iexact A2
    isplitl [C3 A3]
    · isplitl [C3]; · iexact C3
      iexact A3
    isplitl [C4]; · iexact C4
    iexact A4
  iintro %r27 ⟨HO, K2, K3, K4⟩
  simp only [Prog.lift, Prog.bind_op, Prog.bind_ret, Prog.pure_eq_ret]
  iapply (sent_step m K c 5) $$ [HO C5 A5]
  · isplitr; · iexact HR
    isplitl [HO]; · iexact HO
    isplitl [C5] <;> iassumption
  iintro ⟨HO, K5⟩
  iapply (sent_step m K c 6) $$ [HO C6 A6]
  · isplitr; · iexact HR
    isplitl [HO]; · iexact HO
    isplitl [C6] <;> iassumption
  iintro ⟨HO, K6⟩
  iapply run_done
  iapply Hk
  isplitl [HO]; · iexact HO
  isplitl [Hbz]; · iexact Hbz
  isplitl [Hx Ha Hb]
  · isplitl [Hx]; · iexact Hx
    isplitl [Ha]; · iexact Ha
    iexact Hb
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [V0 V1]
  · isplitl [V0]; · iexact V0
    iexact V1
  isplitl [K0 K1 K2 K3 K4 K5 K6]
  · isplitl [K0]; · iexact K0
    isplitl [K1]; · iexact K1
    isplitl [K2]; · iexact K2
    isplitl [K3]; · iexact K3
    isplitl [K4]; · iexact K4
    isplitl [K5]; · iexact K5
    iexact K6
  isplitl [E0 R0 E1 R1 E2 R2 E3 R3 E4 R4 E5 R5 E6 R6]
  · isplitl [E0 R0]
    · isplitl [E0]; · iexact E0
      iexact R0
    isplitl [E1 R1]
    · isplitl [E1]; · iexact E1
      iexact R1
    isplitl [E2 R2]
    · isplitl [E2]; · iexact E2
      iexact R2
    isplitl [E3 R3]
    · isplitl [E3]; · iexact E3
      iexact R3
    isplitl [E4 R4]
    · isplitl [E4]; · iexact E4
      iexact R4
    isplitl [E5 R5]
    · isplitl [E5]; · iexact E5
      iexact R5
    isplitl [E6]; · iexact E6
    iexact R6
  isplitl [P0 P1]
  · isplitl [P0]; · iexact P0
    iexact P1
  isplitl [D D0 D1 D2 D3 D4 D5 D6]
  · isplitl [D]; · iexact D
    isplitl [D0]; · iexact D0
    isplitl [D1]; · iexact D1
    isplitl [D2]; · iexact D2
    isplitl [D3]; · iexact D3
    isplitl [D4]; · iexact D4
    isplitl [D5]; · iexact D5
    iexact D6
  isplitl [Z0]; · iexact Z0
  isplitl [Z1]; · iexact Z1
  isplitl [Y0]; · iexact Y0
  iexact Y1

end Cert.KernelIdeal.A2A

end
-- ==== Proof.Blocks.lean ====
/-
# The buffers cut into blocks

The weight's columns, the result's rows and the scratch buffers' slots, each a family of rectangles that are apart
and together make the whole buffer; and the result as one array, glued from the blocks of the eight devices.
-/
module

public import proofs.«01_k».proof.Proof.Body

@[expose] public section

set_option maxRecDepth 8000
set_option maxHeartbeats 1000000

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Where the blocks lie -/

theorem col_off (c : Dev nD) (r : Fin 8) : k0_off1 c (BitVec.ofNat 32 r.val) = ![0, 1024 * ((c.val + r.val) % 8)] := by
  revert c r; decide +kernel
theorem own_off (c : Dev nD) : k0_off2 c = ![512 * c.val, 0] := by revert c; decide +kernel
theorem row_off (c : Dev nD) (j : Fin 7) : k0_off3 c (BitVec.ofNat 32 (1 + j.val)) = ![512 * (bwd c j).val, 0] := by
  revert c j; decide +kernel

/-- The rectangles of the result's rows: a device's own, and those of every step. -/
abbrev blockRect (c : Dev nD) : Option (Fin 7) → Rect S4096x1024
  | none => ownRect c
  | some j => rowRect c j
/-- The device whose rows they are. -/
def rowsOf (c : Dev nD) : Option (Fin 7) → Dev nD
  | none => c
  | some j => bwd c j
/-- The step at which device `c` has the rows of device `d`, if it is another's. -/
def stepOf (c d : Dev nD) : Option (Fin 7) := if h : d = c then none else some ⟨(c.val + 15 - d.val) % 8 % 7, Nat.mod_lt _ (by decide)⟩

theorem stepOf_rowsOf (c : Dev nD) (t : Option (Fin 7)) : stepOf c (rowsOf c t) = t := by revert c t; decide +kernel
theorem rowsOf_stepOf (c d : Dev nD) : rowsOf c (stepOf c d) = d := by revert c d; decide +kernel

theorem mem_block (c : Dev nD) (t : Option (Fin 7)) (i : S4096x1024.Idx) : i ∈ (blockRect c t).set ↔ (i 0).val / 512 = (rowsOf c t).val := by
  have h0 := (i 0).isLt; have h1 := (i 1).isLt
  have e0 : S4096x1024.size 0 = 4096 := rfl
  have e1 : S4096x1024.size 1 = 1024 := rfl
  rcases t with _ | j
  · refine Rect.mem_set_unit.trans ?_
    rw [own_off]
    refine Fin.forall_fin_two.trans ?_
    show (512 * c.val ≤ (i 0).val ∧ (i 0).val < 512 * c.val + 512) ∧ 0 ≤ (i 1).val ∧ (i 1).val < 0 + 1024 ↔ (i 0).val / 512 = c.val
    omega
  · refine Rect.mem_set_unit.trans ?_
    rw [row_off]
    refine Fin.forall_fin_two.trans ?_
    show (512 * (bwd c j).val ≤ (i 0).val ∧ (i 0).val < 512 * (bwd c j).val + 512) ∧ 0 ≤ (i 1).val ∧ (i 1).val < 0 + 1024 ↔ (i 0).val / 512 = (bwd c j).val
    omega

theorem mem_col (c : Dev nD) (r : Fin 8) (i : S4096x8192.Idx) : i ∈ (colRect c r).set ↔ (i 1).val / 1024 = (c.val + r.val) % 8 := by
  have h0 := (i 0).isLt; have h1 := (i 1).isLt
  have e0 : S4096x8192.size 0 = 4096 := rfl
  have e1 : S4096x8192.size 1 = 8192 := rfl
  refine Rect.mem_set_unit.trans ?_
  rw [col_off]
  refine Fin.forall_fin_two.trans ?_
  show (0 ≤ (i 0).val ∧ (i 0).val < 0 + 4096) ∧ 1024 * ((c.val + r.val) % 8) ≤ (i 1).val ∧ (i 1).val < 1024 * ((c.val + r.val) % 8) + 1024 ↔ (i 1).val / 1024 = (c.val + r.val) % 8
  omega

theorem mem_w (s : Fin 2) (i : S2x4096x1024.Idx) : i ∈ (wRect s).set ↔ (i 0).val = s.val := by
  have h1 := (i 1).isLt; have h2 := (i 2).isLt
  have e1 : S2x4096x1024.size 1 = 4096 := rfl
  have e2 : S2x4096x1024.size 2 = 1024 := rfl
  refine Rect.mem_set_unit.trans ⟨fun h => ?_, fun h a => ?_⟩
  · have := h 0; change s.val ≤ (i 0).val ∧ (i 0).val < s.val + 1 at this; omega
  · fin_cases a
    · show s.val ≤ (i 0).val ∧ (i 0).val < s.val + 1; omega
    · show 0 ≤ (i 1).val ∧ (i 1).val < 0 + 4096; omega
    · show 0 ≤ (i 2).val ∧ (i 2).val < 0 + 1024; omega
theorem mem_s (s : Fin 7) (i : S7x512x1024.Idx) : i ∈ (sRect s).set ↔ (i 0).val = s.val := by
  have h1 := (i 1).isLt; have h2 := (i 2).isLt
  have e1 : S7x512x1024.size 1 = 512 := rfl
  have e2 : S7x512x1024.size 2 = 1024 := rfl
  refine Rect.mem_set_unit.trans ⟨fun h => ?_, fun h a => ?_⟩
  · have := h 0; change s.val ≤ (i 0).val ∧ (i 0).val < s.val + 1 at this; omega
  · fin_cases a
    · show s.val ≤ (i 0).val ∧ (i 0).val < s.val + 1; omega
    · show 0 ≤ (i 1).val ∧ (i 1).val < 0 + 512; omega
    · show 0 ≤ (i 2).val ∧ (i 2).val < 0 + 1024; omega
theorem mem_g (s : Fin 2) (i : S2x512x1024.Idx) : i ∈ (gRect s).set ↔ (i 0).val = s.val := by
  have h1 := (i 1).isLt; have h2 := (i 2).isLt
  have e1 : S2x512x1024.size 1 = 512 := rfl
  have e2 : S2x512x1024.size 2 = 1024 := rfl
  refine Rect.mem_set_unit.trans ⟨fun h => ?_, fun h a => ?_⟩
  · have := h 0; change s.val ≤ (i 0).val ∧ (i 0).val < s.val + 1 at this; omega
  · fin_cases a
    · show s.val ≤ (i 0).val ∧ (i 0).val < s.val + 1; omega
    · show 0 ≤ (i 1).val ∧ (i 1).val < 0 + 512; omega
    · show 0 ≤ (i 2).val ∧ (i 2).val < 0 + 1024; omega

/-! ## Apart, and together the whole: a family told apart by a number every element has -/

section Family
variable {T : Type} [Fintype T] {s : Shape} (r : T → Rect s) (key : s.Idx → ℕ) (at' : T → ℕ)
  (hmem : ∀ t i, i ∈ (r t).set ↔ key i = at' t)
include hmem

theorem apart (hinj : Function.Injective at') (t t' : T) (h : t ≠ t') : Disjoint (r t).set (r t').set :=
  Finset.disjoint_left.mpr fun i hi hi' => h (hinj (((hmem t i).mp hi).symm.trans ((hmem t' i).mp hi')))
theorem whole (hall : ∀ i, ∃ t, key i = at' t) : (Finset.univ : Finset T).biUnion (fun t => (r t).set) = Finset.univ :=
  Finset.eq_univ_iff_forall.mpr fun i => by
    obtain ⟨t, ht⟩ := hall i
    exact Finset.mem_biUnion.mpr ⟨t, Finset.mem_univ _, (hmem t i).mpr ht⟩
end Family

theorem rowsOf_injective (c : Dev nD) : Function.Injective fun t => (rowsOf c t).val := fun t t' h => by
  rw [← stepOf_rowsOf c t, ← stepOf_rowsOf c t', Fin.ext h]
theorem shift_injective (c : Dev nD) : Function.Injective fun r : Fin 8 => (c.val + r.val) % 8 := fun r r' h => by
  have := r.isLt; have := r'.isLt; exact Fin.ext (by simp only at h; omega)

theorem block_apart (c : Dev nD) : ∀ t t', t ≠ t' → Disjoint (blockRect c t).set (blockRect c t').set :=
  apart (blockRect c) (fun i => (i 0).val / 512) _ (mem_block c) (rowsOf_injective c)
theorem block_whole (c : Dev nD) : (Finset.univ : Finset (Option (Fin 7))).biUnion (fun t => (blockRect c t).set) = Finset.univ :=
  whole (blockRect c) (fun i => (i 0).val / 512) _ (mem_block c)
    fun i => ⟨stepOf c ⟨(i 0).val / 512, by have h : (i 0).val < 4096 := (i 0).isLt; show _ < 8; omega⟩, by rw [rowsOf_stepOf]⟩
theorem col_apart (c : Dev nD) : ∀ t t', t ≠ t' → Disjoint (colRect c t).set (colRect c t').set :=
  apart (colRect c) (fun i => (i 1).val / 1024) _ (mem_col c) (shift_injective c)
theorem col_whole (c : Dev nD) : (Finset.univ : Finset (Fin 8)).biUnion (fun r => (colRect c r).set) = Finset.univ :=
  whole (colRect c) (fun i => (i 1).val / 1024) _ (mem_col c) fun i =>
    ⟨⟨((i 1).val / 1024 + (8 - c.val)) % 8, Nat.mod_lt _ (by decide)⟩, by
      have h : (i 1).val < 8192 := (i 1).isLt
      have hc : c.val < 8 := c.isLt
      show (i 1).val / 1024 = (c.val + ((i 1).val / 1024 + (8 - c.val)) % 8) % 8; omega⟩
theorem w_apart : ∀ t t', t ≠ t' → Disjoint (wRect t).set (wRect t').set := apart wRect (fun i => (i 0).val) _ mem_w Fin.val_injective
theorem w_whole : (Finset.univ : Finset (Fin 2)).biUnion (fun t => (wRect t).set) = Finset.univ :=
  whole wRect (fun i => (i 0).val) _ mem_w fun i => ⟨i 0, rfl⟩
theorem s_apart : ∀ t t', t ≠ t' → Disjoint (sRect t).set (sRect t').set := apart sRect (fun i => (i 0).val) _ mem_s Fin.val_injective
theorem s_whole : (Finset.univ : Finset (Fin 7)).biUnion (fun t => (sRect t).set) = Finset.univ :=
  whole sRect (fun i => (i 0).val) _ mem_s fun i => ⟨i 0, rfl⟩
theorem g_apart : ∀ t t', t ≠ t' → Disjoint (gRect t).set (gRect t').set := apart gRect (fun i => (i 0).val) _ mem_g Fin.val_injective
theorem g_whole : (Finset.univ : Finset (Fin 2)).biUnion (fun t => (gRect t).set) = Finset.univ :=
  whole gRect (fun i => (i 0).val) _ mem_g fun i => ⟨i 0, rfl⟩

/-! ## The result, glued -/

/-- The rows of another device, or its own, in device `c`'s columns of the result. -/
def rowsV (t : Option (Fin 7)) : S512x1024.Idx → Elt F .f32 := match t with
  | none => ownV2 m c
  | some j => rowV2 m c j

/-- The place of an element of the result within its block. -/
def within (i : S4096x1024.Idx) : S512x1024.Idx := fun
  | 0 => ⟨(i 0).val % 512, Nat.mod_lt _ (by decide)⟩
  | 1 => ⟨(i 1).val, (i 1).isLt⟩
/-- The device whose rows an element of the result is in. -/
def rowDev (i : S4096x1024.Idx) : Dev nD := ⟨(i 0).val / 512, by have h : (i 0).val < 4096 := (i 0).isLt; show _ < 8; omega⟩

/-- Device `c`'s columns of the result. -/
def resF : S4096x1024.Idx → Elt F .f32 := fun i => rowsV m c (stepOf c (rowDev i)) (within i)

theorem resF_own (j : S512x1024.Idx) : resF m c ((ownRect c).emb j) = ownV2 m c j := by
  have h0 : (j 0).val < 512 := (j 0).isLt
  have e0 : ((ownRect c).emb j 0).val = 512 * c.val + (j 0).val := by
    show (k0_off2 c) 0 + 1 * (j 0).val = _; rw [own_off, Nat.one_mul]; rfl
  have e1 : ((ownRect c).emb j 1).val = (j 1).val := by
    show (k0_off2 c) 1 + 1 * (j 1).val = _; rw [own_off, Nat.one_mul]; exact Nat.zero_add _
  have hd : rowDev ((ownRect c).emb j) = rowsOf c none := Fin.ext (by show _ / 512 = c.val; rw [e0]; omega)
  have hw : within ((ownRect c).emb j) = j := by
    funext a; fin_cases a
    · exact Fin.ext (by show _ % 512 = (j 0).val; rw [e0]; omega)
    · exact Fin.ext e1
  unfold resF; rw [hd, hw, stepOf_rowsOf]; rfl
theorem resF_row (t : Fin 7) (j : S512x1024.Idx) : resF m c ((rowRect c t).emb j) = rowV2 m c t j := by
  have h0 : (j 0).val < 512 := (j 0).isLt
  have e0 : ((rowRect c t).emb j 0).val = 512 * (bwd c t).val + (j 0).val := by
    show (k0_off3 c (BitVec.ofNat 32 (1 + t.val))) 0 + 1 * (j 0).val = _; rw [row_off, Nat.one_mul]; rfl
  have e1 : ((rowRect c t).emb j 1).val = (j 1).val := by
    show (k0_off3 c (BitVec.ofNat 32 (1 + t.val))) 1 + 1 * (j 1).val = _; rw [row_off, Nat.one_mul]; exact Nat.zero_add _
  have hd : rowDev ((rowRect c t).emb j) = rowsOf c (some t) := Fin.ext (by show _ / 512 = (bwd c t).val; rw [e0]; omega)
  have hw : within ((rowRect c t).emb j) = j := by
    funext a; fin_cases a
    · exact Fin.ext (by show _ % 512 = (j 0).val; rw [e0]; omega)
    · exact Fin.ext e1
  unfold resF; rw [hd, hw, stepOf_rowsOf]; rfl

/-! ## Buffers split into their blocks, and joined -/

section Cut
variable {T : Type} [Fintype T] [DecidableEq T] {sp : Space} {s : Shape} {e : EltTy} (M : Memref sig .tc sp s e)
  (r : T → Rect s) (hr : ∀ t a, (r t).stride a = 1)
  (hd : ∀ t t', t ≠ t' → Disjoint (r t).set (r t').set)
  (hcov : (Finset.univ : Finset T).biUnion (fun t => (r t).set) = Finset.univ)
include hd hcov

theorem cut_any : (some' c M : sProp 𝕄) ⊢ bigSep Finset.univ fun t => some' c (M.slice (r t) (hr t)) := by
  iintro ⟨%X, H⟩
  have hm (t : T) (_ : t ∈ (Finset.univ : Finset T)) : (owns (c : Thread nD τ) (M.slice (r t) (hr t)) fullShare (fun j => X ((r t).emb j)) : sProp 𝕄)
      ⊢ some' c (M.slice (r t) (hr t)) := by iintro H; iexists _; iexact H
  iapply ((owns_rects (c : Thread nD τ) M fullShare r hr hd hcov X).trans (bigSep_mono hm))
  iexact H

omit hcov in
/-- Contents given block by block are the blocks of one array. -/
theorem glue [Nonempty (Elt F e)] (X : (t : T) → (r t).shape.Idx → Elt F e) : ∃ Y : s.Idx → Elt F e, ∀ t j, Y ((r t).emb j) = X t j := by
  classical
  refine ⟨fun i => if h : ∃ p : (t : T) × (r t).shape.Idx, (r p.1).emb p.2 = i then X h.choose.1 h.choose.2 else Classical.arbitrary _, fun t j => ?_⟩
  have h : ∃ p : (t : T) × (r t).shape.Idx, (r p.1).emb p.2 = (r t).emb j := ⟨⟨t, j⟩, rfl⟩
  have hmem (t : T) (j : (r t).shape.Idx) : (r t).emb j ∈ (r t).set := by
    rw [← Rect.map_emb_univ]; exact Finset.mem_map_of_mem _ (Finset.mem_univ _)
  have hp : h.choose = ⟨t, j⟩ := by
    have hs := h.choose_spec
    generalize h.choose = p at hs
    obtain ⟨t', j'⟩ := p
    have ht : t' = t := by
      by_contra hne
      exact Finset.disjoint_left.mp (hd t' t hne) (hmem t' j') (by rw [hs]; exact hmem t j)
    subst ht
    have hj : j' = j := (r t').emb.injective hs
    rw [hj]
  show (if h : _ then _ else _) = _
  rw [dif_pos h, hp]

theorem join_any [∀ e, Nonempty (Elt F e)] : (bigSep Finset.univ fun t => some' c (M.slice (r t) (hr t))) ⊢ (some' c M : sProp 𝕄) := by
  iintro H
  ihave H' := (bigSep_exists_pi Finset.univ (fun (t : T) (X : (r t).shape.Idx → Elt F e) =>
    (owns (c : Thread nD τ) (M.slice (r t) (hr t)) fullShare X : sProp 𝕄))) $$ H
  icases H' with ⟨%X, H⟩
  obtain ⟨Y, hY⟩ := glue r hd X
  iexists Y
  iapply (owns_of_rects (c : Thread nD τ) M fullShare r hr hd hcov Y)
  iapply (Entails.of_eq (bigSep_congr (s := Finset.univ) fun t _ => congrArg (owns (c : Thread nD τ) (M.slice (r t) (hr t)) fullShare) (funext fun j => (hY t j).symm)))
  iexact H
end Cut

end Cert.KernelIdeal.A2A

end
-- ==== Proof.Launch.lean ====
/-
# The launch

What the eight devices hold as they start, dealt from what the machine holds at the start; and the run of the whole
program: every device's part of the result at its end.
-/
module

public import proofs.«01_k».proof.Proof.Blocks
public import Idealize.ShloMosaic.Lib.Pipeline.CollectiveSegs

@[expose] public section

set_option maxRecDepth 8000
set_option maxHeartbeats 1000000

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The kernel's own semaphores -/

/-- The copies' four, and the steps' send and receive ones. -/
abbrev osem : Fin 4 ⊕ (Fin 7 ⊕ Fin 7) → SemLoc sig
  | .inl 0 => .dma (wS 0) | .inl 1 => .dma (wS 1) | .inl 2 => .dma (oS 0) | .inl 3 => .dma (oS 1)
  | .inr (.inl j) => .dma (sendS j)
  | .inr (.inr j) => .dma (recvS j)

theorem ownSemFacts : Pipeline.OwnSemFacts cfg0.spec osem := by decide +kernel

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem onOption (Φ : Option (Fin 7) → sProp 𝕄) : bigSep Finset.univ Φ = iprop(Φ none ∗ bigSep Finset.univ fun j => Φ (some j)) := by
  rw [seven]
  exact bigSep_univ_eq_bigSepL [none, some 0, some 1, some 2, some 3, some 4, some 5, some 6] (by decide) (by decide) Φ

abbrev idles (c : Dev nD) : sProp 𝕄 := iprop(idle c (wS 0) ∗ idle c (wS 1) ∗ idle c (oS 0) ∗ idle c (oS 1))

theorem ownSems0_eq (c : Dev nD) : (Pipeline.ownSems0 (Ix := Unit) (Name := ℕ) (U := UU) (Lvl := ℕ) (Val := Elt F) (τ := τ) osem c : sProp 𝕄)
    = iprop(idles c ∗ (bigSep Finset.univ fun j => semVal (sendCell c j) 0) ∗ bigSep Finset.univ fun j => semVal (recvCell c j) 0) := by
  unfold Pipeline.ownSems0; rw [bigSep_univ_sum, bigSep_univ_sum, four]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A resource per cell of a device, cell by cell. -/
theorem onCells (Φ : CI → sProp 𝕄) :
    bigSep Finset.univ Φ = iprop(Φ (.inl ()) ∗ (bigSep Finset.univ fun j => Φ (.inr (.inl j))) ∗ bigSep Finset.univ fun j => Φ (.inr (.inr j))) := by
  rw [bigSep_univ_sum, bigSep_univ_sum, bigSep_univ_of_subsingleton ()]; rfl

/-! ## The cells and the tokens of their duties -/

theorem csem_injective : Function.Injective csem := by
  have h : ∀ k k' : CI, csem k = csem k' → k = k' := by decide +kernel
  exact fun k k' => h k k'
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

/-- A device's duties: a barrier one per step, and the one of each send and receive cell. -/
abbrev DI : Type := Fin 7 ⊕ (Fin 7 ⊕ Fin 7)
def dsem : DI → SemLoc sig × Fin 7
  | .inl j => (.reg barS, j)
  | .inr (.inl j) => (.dma (sendS j), 0)
  | .inr (.inr j) => (.dma (recvS j), 0)
def tokOf (x : Dev nD × DI) : GSem nD τ sig × ℕ × Fin 7 := (((x.1 : Thread nD τ), (dsem x.2).1), 0, (dsem x.2).2)
theorem dsem_injective : Function.Injective dsem := by
  have h : ∀ k k' : DI, dsem k = dsem k' → k = k' := by decide +kernel
  exact fun k k' => h k k'
theorem tokOf_injective : Function.Injective tokOf := by
  rintro ⟨c, k⟩ ⟨c', k'⟩ h
  have h1 : c = c' := congrArg (fun x : GSem nD τ sig × ℕ × Fin 7 => x.1.1.1) h
  have h2 : k = k' := dsem_injective (congrArg (fun x : GSem nD τ sig × ℕ × Fin 7 => (x.1.2, x.2.2)) h)
  rw [h1, h2]
def duties : Finset (GSem nD τ sig × ℕ × Fin 7) := Finset.univ.map ⟨tokOf, tokOf_injective⟩

def u₀ : UU := (initOf (Pipeline.cells cfgs cellOf_inj) (Pipeline.launchToks cfgs cellOf_inj), (initOf cells duties, 1))

/-- The tokens of the duties of device `c`'s own cells, -/
def toks (c : Dev nD) : sProp 𝕄 :=
  iprop((bigSep Finset.univ fun j => dutyTok ER (barCell c) 0 j) ∗ (bigSep Finset.univ fun j => dutyTok ER (sendCell c j) 0 0)
    ∗ bigSep Finset.univ fun j => dutyTok ER (recvCell c j) 0 0)
/-- and those of the duties it pays. -/
def payToks (c : Dev nD) : sProp 𝕄 :=
  iprop((bigSep Finset.univ fun j => dutyTok ER (barCell (fwd c j)) 0 j) ∗ (bigSep Finset.univ fun j => dutyTok ER (sendCell c j) 0 0)
    ∗ bigSep Finset.univ fun j => dutyTok ER (recvCell (fwd c j) j) 0 0)
def positions (c : Dev nD) : sProp 𝕄 := bigSep Finset.univ fun k : CI => atPos ER (kcell (c, k)) 0 ∅ 0

def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks c)
/-- What the cells' allocation makes of it: their records, the device's positions, tokens and idle copies. -/
def G' (c : Dev nD) : sProp 𝕄 := iprop(∃ K, records m K ∗ positions c ∗ payToks c ∗ idles c)

theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun k : CI => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum, bigSep_univ_sum]; rfl
  iintro HX
  imod (Rounds.fund ER (sched m) cells duties) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idles c) := by
  have hv : iprop((semVal (barCell c) 0 ∗ (bigSep Finset.univ fun j => semVal (sendCell c j) 0) ∗ bigSep Finset.univ fun j => semVal (recvCell c j) 0)
        ∗ bigSep Finset.univ fun k : CI => roundState ER (sched m) (kcell (c, k)) 0)
      ⊢ (|={Set.univ}=> bigSep Finset.univ fun k => iprop(∃ κ : ℕ, cellInv ER (sched m) κ (kcell (c, k))) : sProp 𝕄) := by
    refine (sep_mono_left (Entails.of_eq (onCells fun k : CI => (semVal (kcell (c, k)) 0 : sProp 𝕄)).symm)).trans ?_
    rw [← bigSep_sep']
    exact (bigSep_mono fun k _ => (Rounds.body_intro ER (sched m) (kcell (c, k))).trans inv_alloc).trans (bigSep_fupd _ _)
  rw [ownSems0_eq, unscopedSems0_eq]
  unfold G
  iintro ⟨⟨Hid, HS, HV⟩, HB, Hst, Hat, Htok⟩
  imod hv $$ [HB HS HV Hst] with Hinv
  · isplitl [HB HS HV]
    · isplitl [HB]; · iexact HB
      isplitl [HS] <;> iassumption
    · iexact Hst
  imodintro
  isplitl [Hinv]; · iexact Hinv
  isplitl [Hat]; · iexact Hat
  isplitl [Htok] <;> iassumption

/-- A resource per device and step, dealt to the device that many places before. -/
theorem turn (Φ : Dev nD → Fin 7 → sProp (MT nD τ sig Unit (Elt F) ℕ UU ℕ)) :
    (bigSep Finset.univ fun c : Dev nD => bigSep Finset.univ fun j => Φ c j)
      = bigSep Finset.univ fun c : Dev nD => bigSep Finset.univ fun j => Φ (fwd c j) j := by
  rw [BI.bigSep_univ_comm, BI.bigSep_univ_comm (fun c j => Φ (fwd c j) j)]
  exact bigSep_congr fun j _ => bigSep_univ_equiv (around j) fun c => Φ c j

theorem toks_around : (bigSep Finset.univ fun c : Dev nD => (toks c : sProp 𝕄)) ⊢ bigSep Finset.univ fun c : Dev nD => payToks c := by
  unfold toks payToks
  rw [bigSep_sep', bigSep_sep', bigSep_sep', bigSep_sep', turn fun c j => dutyTok ER (barCell c) 0 j, turn fun c j => dutyTok ER (recvCell c j) 0 0]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idles c) : sProp 𝕄)
      ⊢ bigSep Finset.univ (G' m) := by
  rw [bigSep_sep', bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  have hS : iprop((bigSep Finset.univ fun c : Dev nD => positions c) ∗ (bigSep Finset.univ fun c : Dev nD => payToks c) ∗ bigSep Finset.univ fun c : Dev nD => idles c)
      ⊢ (bigSep Finset.univ fun c : Dev nD => iprop(positions c ∗ payToks c ∗ idles c) : sProp 𝕄) := by
    rw [bigSep_sep' _ positions, bigSep_sep' _ payToks]
  iintro ⟨HI, ⟨Hat, #HR⟩, Htok, Hid⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  have hG (c : Dev nD) (_ : c ∈ (Finset.univ : Finset (Dev nD))) : iprop(records m K ∗ positions c ∗ payToks c ∗ idles c) ⊢ G' m c := by
    unfold G'; iintro H; iexists K; iexact H
  iapply (bigSep_with_persistent (R := records m K) hG)
  isplitr
  · unfold records; isplitl; · iexact HI
    iexact HR
  · iapply hS
    isplitl [Hat]; · unfold positions; iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the launch deals -/

theorem bar_inj {a b : Dev nD} (h : barCell a = barCell b) : a = b := congrArg (fun g : GSem nD τ sig => g.1.1) h
theorem recv_inj {a b : Dev nD} {i j : Fin 7} (h : recvCell a i = recvCell b j) : a = b ∧ i = j :=
  ⟨congrArg (fun g : GSem nD τ sig => g.1.1) h, Option.some_injective _ (by rw [← recvIx_recv i, ← recvIx_recv j]; exact congrArg (fun g : GSem nD τ sig => recvIx g.2) h)⟩

theorem sum_bar (c : Dev nD) (j : Fin 7) : ∑ d : Dev nD, (tallyAt (barCell (fwd d j)) () 1 : CellTallies nD τ sig Unit) (barCell c) () = 1 := by
  rw [Finset.sum_congr rfl (fun d _ => (show (tallyAt (barCell (fwd d j)) () 1 : CellTallies nD τ sig Unit) (barCell c) () = if d = bwd c j then 1 else 0 by
    rw [tallyAt_apply]
    by_cases h : d = bwd c j
    · subst h; rw [fwd_bwd, if_pos ⟨rfl, rfl⟩, if_pos rfl]
    · rw [if_neg (fun hh => h (by rw [bar_inj hh.1, bwd_fwd])), if_neg h])),
    Finset.sum_ite_eq' Finset.univ (bwd c j) fun _ => 1, if_pos (Finset.mem_univ _)]
theorem sum_recv (c : Dev nD) (i j : Fin 7) :
    ∑ d : Dev nD, (tallyAt (recvCell (fwd d i) i) () N : CellTallies nD τ sig Unit) (recvCell c j) () = if i = j then N else 0 := by
  by_cases hij : i = j
  · subst hij
    rw [if_pos rfl, Finset.sum_congr rfl (fun d _ => (show (tallyAt (recvCell (fwd d i) i) () N : CellTallies nD τ sig Unit) (recvCell c i) () = if d = bwd c i then N else 0 by
      rw [tallyAt_apply]
      by_cases h : d = bwd c i
      · subst h; rw [fwd_bwd, if_pos ⟨rfl, rfl⟩, if_pos rfl]
      · rw [if_neg (fun hh => h (by rw [(recv_inj hh.1).1, bwd_fwd])), if_neg h])),
      Finset.sum_ite_eq' Finset.univ (bwd c i) fun _ => N, if_pos (Finset.mem_univ _)]
  · rw [if_neg hij]
    exact Finset.sum_eq_zero fun d _ => by rw [tallyAt_apply, if_neg fun hh => hij (recv_inj hh.1).2.symm]

theorem owedR_bar (c : Dev nD) (k : ℕ) : ∑ d : Dev nD, owedR d k (barCell c) () = 0 :=
  Finset.sum_eq_zero fun d _ => by
    by_contra h
    obtain ⟨e, j, he⟩ := owedR_pos (Nat.pos_of_ne_zero h)
    exact recv_ne_bar j (congrArg Prod.snd he).symm
theorem owedB_bar (c : Dev nD) (k : ℕ) : ∑ d : Dev nD, owedB d k (barCell c) () = k := by
  induction k with
  | zero => exact owedR_bar c 7
  | succ k ih => unfold owedB; simp only [Pi.add_apply, Finsupp.add_apply]; rw [Finset.sum_add_distrib, ih, sum_bar]
theorem owedR_recv (c : Dev nD) (j : Fin 7) (k : ℕ) (hk : k ≤ 7) : ∑ d : Dev nD, owedR d k (recvCell c j) () = if 7 - k ≤ j.val then N else 0 := by
  induction k with
  | zero => rw [if_neg (by omega)]; exact Finset.sum_eq_zero fun d _ => rfl
  | succ k ih =>
    unfold owedR; simp only [Pi.add_apply, Finsupp.add_apply]
    rw [Finset.sum_add_distrib, ih (by omega), sum_recv]
    have hj := j.isLt
    have hv : (Fin.ofNat 7 (6 - k) = j) ↔ 6 - k = j.val := by
      rw [Fin.ext_iff]; show (6 - k) % 7 = j.val ↔ _; omega
    simp only [hv]
    by_cases h1 : 7 - k ≤ j.val
    · rw [if_pos h1, if_neg (by omega), if_pos (by omega), Nat.add_zero]
    · by_cases h2 : 6 - k = j.val
      · rw [if_neg h1, if_pos h2, if_pos (by omega), Nat.zero_add]
      · rw [if_neg h1, if_neg h2, if_neg (by omega)]
theorem owedB_recv (c : Dev nD) (j : Fin 7) (k : ℕ) : ∑ d : Dev nD, owedB d k (recvCell c j) () = N := by
  induction k with
  | zero => exact (owedR_recv c j 7 (le_refl _)).trans (if_pos (Nat.zero_le _))
  | succ k ih =>
    unfold owedB; simp only [Pi.add_apply, Finsupp.add_apply]
    rw [Finset.sum_add_distrib, ih, Finset.sum_eq_zero (fun d _ => by rw [tallyAt_apply, if_neg fun hh => recv_ne_bar j (congrArg Prod.snd hh.1)]), Nat.add_zero]

abbrev O₀ (c : Dev nD) : CellTallies nD τ sig Unit := owedB c 7

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owedB_bar]
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, owedB_recv]

theorem recvS_injective : Function.Injective fun j : Fin 7 => (SemLoc.dma (recvS j) : SemLoc sig) := fun i j h =>
  Option.some_injective _ (by rw [← recvIx_recv i, ← recvIx_recv j]; exact congrArg recvIx h)

theorem creds (c : Dev nD) :
    (Pipeline.launchCred O₀ c : sProp 𝕄) ⊢ iprop(cred (tallyAt (barCell c) () 7) ∗ bigSep Finset.univ fun j => cred (tallyAt (recvCell c j) () N)) := by
  unfold Pipeline.launchCred
  rw [bigSep_univ_at _ (SemLoc.reg barS), launch_bar]
  refine sep_mono_right ?_
  rw [show (bigSep Finset.univ fun j => (cred (tallyAt (recvCell c j) () N) : sProp 𝕄))
      = bigSep (Finset.univ.map ⟨_, recvS_injective⟩) fun sm => cred (tallyOn ((c : Thread nD τ), sm) (launchCredit (Pipeline.owing O₀) 0 ((c : Thread nD τ), sm))) from by
    rw [bigSep_map]; exact bigSep_congr fun j _ => by rw [← launch_recv]; rfl]
  refine bigSep_subset fun sm hsm => ?_
  obtain ⟨j, -, rfl⟩ := Finset.mem_map.mp hsm
  exact Finset.mem_erase.mpr ⟨recv_ne_bar j, Finset.mem_univ _⟩

/-! ## Before the kernel and after it -/

abbrev wPts (c : Dev nD) : sProp 𝕄 := own c wM (m ((c : Thread nD τ).loc main_arg1))
abbrev scratch (c : Dev nD) : sProp 𝕄 := iprop(some' c wvM ∗ some' c sdM ∗ some' c rvM ∗ some' c sgM)

def start (c : Dev nD) : sProp 𝕄 :=
  iprop(G' m c ∗ (cred (tallyAt (barCell c) () 7) ∗ bigSep Finset.univ fun j => cred (tallyAt (recvCell c j) () N)) ∗ levAts L lv ∗ wPts m c ∗ some' c oM)
def Φ₀ (c : Dev nD) : sProp 𝕄 := iprop(start m c ∗ scratch c)
def left (c : Dev nD) : sProp 𝕄 := iprop(semVal (barCell c) 0 ∗ wPts m c ∗ own c oM (resF m c))
def Φ₁ (c : Dev nD) : sProp 𝕄 :=
  iprop(left m c ∗ (idles c ∗ (bigSep Finset.univ fun j => semVal (sendCell c j) 0) ∗ bigSep Finset.univ fun j => semVal (recvCell c j) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => aC m c
    | ⟨2, _⟩ => bC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-- The scratch buffers by slots, and back. -/
theorem scratch_cut (c : Dev nD) : (scratch c : sProp 𝕄)
    ⊢ iprop((some' c (wSlot 0) ∗ some' c (wSlot 1)) ∗ (bigSep Finset.univ fun j => some' c (sSlot j)) ∗ (bigSep Finset.univ fun j : Fin 7 => some' c (rSlot j.rev))
      ∗ (some' c (gSlot 0) ∗ some' c (gSlot 1))) := by
  have hw := cut_any (F := F) c wvM wRect (fun _ _ => rfl) w_apart w_whole
  have hg := cut_any (F := F) c sgM gRect (fun _ _ => rfl) g_apart g_whole
  have hs := cut_any (F := F) c sdM sRect (fun _ _ => rfl) s_apart s_whole
  have hr := cut_any (F := F) c rvM sRect (fun _ _ => rfl) s_apart s_whole
  rw [bigSep_fin_two] at hw hg
  rw [bigSep_univ_equiv Fin.revPerm] at hr
  exact BI.sep_mono hw (BI.sep_mono hs (BI.sep_mono hr hg))
theorem scratch_join (c : Dev nD) : iprop((some' c (wSlot 0) ∗ some' c (wSlot 1)) ∗ (bigSep Finset.univ fun j => some' c (sSlot j)) ∗ (bigSep Finset.univ fun j => some' c (rSlot j))
      ∗ (some' c (gSlot 0) ∗ some' c (gSlot 1))) ⊢ (scratch c : sProp 𝕄) := by
  have hw := join_any (F := F) c wvM wRect (fun _ _ => rfl) w_apart w_whole
  have hg := join_any (F := F) c sgM gRect (fun _ _ => rfl) g_apart g_whole
  have hs := join_any (F := F) c sdM sRect (fun _ _ => rfl) s_apart s_whole
  have hr := join_any (F := F) c rvM sRect (fun _ _ => rfl) s_apart s_whole
  rw [bigSep_fin_two] at hw hg
  exact BI.sep_mono hw (BI.sep_mono hs (BI.sep_mono hr hg))

/-- The weight by column blocks, and back; the result by row blocks, and back. -/
theorem weight_cut (c : Dev nD) : wPts m c ⊢ bigSep Finset.univ fun r => own c (wCol c r) (wC m c r) :=
  owns_rects (c : Thread nD τ) wM fullShare (colRect c) (fun _ _ => rfl) (col_apart c) (col_whole c) _
theorem weight_join (c : Dev nD) : (bigSep Finset.univ fun r => own c (wCol c r) (wC m c r)) ⊢ wPts m c :=
  owns_of_rects (c : Thread nD τ) wM fullShare (colRect c) (fun _ _ => rfl) (col_apart c) (col_whole c) _
theorem blockRect_stride (c : Dev nD) (t : Option (Fin 7)) (a) : (blockRect c t).stride a = 1 := by cases t <;> rfl
theorem result_cut (c : Dev nD) : (some' c oM : sProp 𝕄) ⊢ iprop(some' c (oOwn c) ∗ bigSep Finset.univ fun j => some' c (oRow c j)) := by
  have h := cut_any (F := F) c oM (blockRect c) (blockRect_stride c) (block_apart c) (block_whole c)
  rw [onOption] at h
  exact h
theorem result_join (c : Dev nD) : iprop(own c (oOwn c) (ownV2 m c) ∗ bigSep Finset.univ fun j => own c (oRow c j) (rowV2 m c j)) ⊢ own c oM (resF m c) := by
  have h := owns_of_rects (Ix := Unit) (Name := ℕ) (U := UU) (Lvl := ℕ) (c : Thread nD τ) oM fullShare (blockRect c) (blockRect_stride c) (block_apart c) (block_whole c) (resF m c)
  rw [onOption] at h
  refine Entails.trans (Entails.of_eq ?_) h
  refine congrArg₂ (fun P Q : sProp 𝕄 => iprop(P ∗ Q)) (congrArg (own c (oOwn c)) (funext fun j => (resF_own m c j).symm))
    (bigSep_congr fun t _ => congrArg (own c (oRow c t)) (funext fun j => (resF_row m c t j).symm))

/-! ## The kernel's obligation -/

section Body
variable (K : Dev nD × CI → ℕ) (c : Dev nD)

theorem enter : iprop(owing c (O₀ c) ∗ (cred (tallyAt (barCell c) () 7) ∗ bigSep Finset.univ fun j => cred (tallyAt (recvCell c j) () N))
      ∗ positions c ∗ payToks c ∗ idles c ∗ wPts m c ∗ some' c oM ∗ scratch c ∗ (own c xM (xC m c) ∗ own c aM (aC m c) ∗ own c bM (bC m c)))
    ⊢ entry m c := by
  unfold positions payToks entry
  rw [onCells]
  simp only [bigSep_sep']
  iintro ⟨Ho, ⟨Hcb, Hcr⟩, ⟨HaB, HaS, HaR⟩, ⟨HtB, HtS, HtR⟩, Hid, Hw, Hres, Hscr, Hin⟩
  ihave Hscr' := (scratch_cut (F := F) c) $$ Hscr
  icases Hscr' with ⟨Hsw, Hss, Hsr, Hsg⟩
  isplitl [Ho Hcb HaB]
  · isplitl [Ho]; · iexact Ho
    isplitl [Hcb]; · iexact Hcb
    iexact HaB
  isplitl [HtB Hsr]
  · isplitl [HtB]; · iexact HtB
    iexact Hsr
  isplitl [HtS HtR]
  · isplitl [HtS] <;> iassumption
  isplitl [Hcr HaR]
  · isplitl [Hcr]; · iexact Hcr
    iexact HaR
  isplitl [HaS]; · iexact HaS
  isplitl [Hin]; · iexact Hin
  isplitl [Hw]; · iapply (weight_cut m c); iexact Hw
  isplitl [Hsw]; · iexact Hsw
  isplitl [Hss]; · iexact Hss
  isplitl [Hsg]; · iexact Hsg
  isplitl [Hres]; · iapply (result_cut (F := F) c); iexact Hres
  iexact Hid

theorem any_own {sp : Space} {s : Shape} {e : EltTy} (M : Memref sig .tc sp s e) (X : s.Idx → Elt F e) : (own c M X : sProp 𝕄) ⊢ some' c M := by
  iintro H; iexists X; iexact H

theorem leave : exit m c ⊢ iprop(owing c 0 ∗ Φ₁ m c ∗ (own c xM (xC m c) ∗ own c aM (aC m c) ∗ own c bM (bC m c))) := by
  have hs : (bigSep Finset.univ fun j => sendPay m c j) ⊢ bigSep Finset.univ fun j => some' c (sSlot j) :=
    bigSep_mono fun j _ => any_own c (sSlot j) (sendV m c j)
  have hr : (bigSep Finset.univ fun j => recvPay m c j) ⊢ bigSep Finset.univ fun j => some' c (rSlot j) :=
    bigSep_mono fun j _ => any_own c (rSlot j) (sendV m (bwd c j) j)
  unfold exit Φ₁ left
  simp only [bigSep_sep']
  iintro ⟨Ho, HzB, Hin, Hw, ⟨Hw0, Hw1⟩, ⟨HzS, Hss⟩, ⟨HzR, Hrr⟩, ⟨Hg0, Hg1⟩, Hres, Hid⟩
  isplitl [Ho]; · iexact Ho
  isplitr [Hin]; swap
  · iexact Hin
  isplitl [HzB Hw Hres]
  · isplitl [HzB]; · iexact HzB
    isplitl [Hw]; · iapply (weight_join m c); iexact Hw
    iapply (result_join m c); iexact Hres
  isplitl [Hid HzS HzR]
  · isplitl [Hid]; · iexact Hid
    isplitl [HzS] <;> iassumption
  iapply (scratch_join (F := F) c)
  isplitl [Hw0 Hw1]
  · isplitl [Hw0]
    · iapply (any_own c (wSlot 0)); iexact Hw0
    · iapply (any_own c (wSlot 1)); iexact Hw1
  isplitl [Hss]
  · iapply hs; iexact Hss
  isplitl [Hrr]
  · iapply hr; iexact Hrr
  isplitl [Hg0]
  · iapply (any_own c (gSlot 0)); iexact Hg0
  · iapply (any_own c (gSlot 1)); iexact Hg1

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem before_0 (d) : (dats m ρ 0 c).before (0 : Fin 3) t₀ d = xC m c := by unfold Dat.before; rw [if_pos (fetch0_0 t₀)]; rfl
theorem before_1 (d) : (dats m ρ 0 c).before (1 : Fin 3) t₀ d = aC m c := by unfold Dat.before; rw [if_pos (fetch0_1 t₀)]; rfl
theorem before_2 (d) : (dats m ρ 0 c).before (2 : Fin 3) t₀ d = bC m c := by unfold Dat.before; rw [if_pos (fetch0_2 t₀)]; rfl

def pre : sProp 𝕄 :=
  iprop(Φ₀ m c ∗ (dats m ρ 0 c).owesAt () t₀.castSucc
    ∗ (∃ d, own c xM ((dats m ρ 0 c).before (0 : Fin 3) t₀ d)) ∗ (∃ d, own c aM ((dats m ρ 0 c).before (1 : Fin 3) t₀ d))
    ∗ (∃ d, own c bM ((dats m ρ 0 c).before (2 : Fin 3) t₀ d)))
def post : sProp 𝕄 :=
  iprop(Φ₁ m c ∗ (dats m ρ 0 c).owesAt () t₀.succ ∗ own c xM (xC m c) ∗ own c aM (aC m c) ∗ own c bM (bC m c))

theorem sound : pre m ρ c ⊢ Run c (bodyAt0 (F := F) t₀) fun _ => post m ρ c := by
  unfold pre Φ₀ start G' Dat.owesAt Pipeline.owesWithin
  rw [show (dats m ρ 0 c).owed t₀.castSucc = O₀ c from rfl]
  iintro ⟨⟨⟨⟨%K, #HR, Hpos, Htok, Hid⟩, Hcr, #Hlev, Hw, Hres⟩, Hscr⟩, ⟨%W, -, HO⟩, ⟨%d0, Hx⟩, ⟨%d1, Ha⟩, ⟨%d2, Hb⟩⟩
  rw [before_0, before_1, before_2]
  iapply (body m K c) $$ [HO Hcr Hpos Htok Hid Hw Hres Hscr Hx Ha Hb]
  · isplitr; · iexact HR
    isplitr; · iexact Hlev
    iapply (enter m c)
    isplitl [HO]; · unfold owing; iexists W; iexact HO
    isplitl [Hcr]; · iexact Hcr
    isplitl [Hpos]; · iexact Hpos
    isplitl [Htok]; · iexact Htok
    isplitl [Hid]; · iexact Hid
    isplitl [Hw]; · iexact Hw
    isplitl [Hres]; · iexact Hres
    isplitl [Hscr]; · iexact Hscr
    isplitl [Hx]; · iexact Hx
    isplitl [Ha] <;> iassumption
  iintro He
  ihave He' := (leave m c) $$ He
  icases He' with ⟨Ho, HΦ, Hin⟩
  unfold post Dat.owesAt Pipeline.owesWithin
  rw [show (dats m ρ 0 c).owed t₀.succ = 0 from rfl]
  isplitl [HΦ]; · iexact HΦ
  isplitl [Ho]
  · unfold owing
    icases Ho with ⟨%W', HO⟩
    iexists W'
    isplitr; · ipureintro; exact fun _ _ => Or.inl trivial
    iexact HO
  iexact Hin

end Body

theorem body_obligation (c : Dev nD) : BodyObligation (dats (F := F) m ρ 0 c) (defs₀ (F := F)) Variants.none () Set.univ := fun t => by
  rw [fin_N t, bigSep_W0, bigSep_W0]
  exact sound m ρ c

/-! ## The theorem's side conditions -/

/-- A whole buffer owned through its view is its points-to. -/
theorem own_whole (c : Dev nD) (b : Ref sig .tc) (f : Buf (Elt F) ((c : Thread nD τ).loc b)) :
    (own c (Memref.whole b) f : sProp 𝕄) = (((c : Thread nD τ).loc b) ↦{fullShare} f) := owns_whole _ _ _ _
theorem wM_eq (c : Dev nD) (f : Buf (Elt F) ((c : Thread nD τ).loc main_arg1)) : (own (F := F) c wM f : sProp 𝕄) = (((c : Thread nD τ).loc main_arg1) ↦{fullShare} f) := own_whole c main_arg1 f
theorem oM_eq (c : Dev nD) (f : Buf (Elt F) ((c : Thread nD τ).loc main_v1)) : (own (F := F) c oM f : sProp 𝕄) = (((c : Thread nD τ).loc main_v1) ↦{fullShare} f) := own_whole c main_v1 f

theorem rest_eq (c : Dev nD) (W : (b : Ref sig .tc) → Buf (Elt F) ((c : Thread nD τ).loc b)) :
    (Pipeline.unscopedRestP (Ix := Unit) (Name := ℕ) (U := UU) (Lvl := ℕ) Pipeline.Prefetch.none cfg0.spec c W : sProp 𝕄)
      = iprop(own c wM (W main_arg1) ∗ own c oM (W main_v1)) := by
  rw [wM_eq, oM_eq]
  exact Pipeline.unscopedRestP_eq_of_list cfg0.spec c Pipeline.Prefetch.none W [main_arg1, main_v1] (by decide) (by decide)
theorem scoped_eq (c : Dev nD) :
    (Pipeline.scopedRest (Ix := Unit) (Name := ℕ) (U := UU) (Lvl := ℕ) (Val := Elt F) cfg0.spec c : sProp 𝕄) = scratch c := by
  rw [scopedRest0_eq]
  have h (b : Ref sig .tc) : (iprop(∃ f : Buf (Elt F) ((c : Thread nD τ).loc b), ((c : Thread nD τ).loc b) ↦{fullShare} f) : sProp 𝕄) = some' c (Memref.whole b) :=
    congrArg (fun P => iprop(∃ f, P f)) (funext fun f => (own_whole c b f).symm)
  rw [h, h, h, h]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨⟨Hw, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hw]; · iexact Hw
    iapply (any_own c oM); iexact Ho
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scoped_eq]
  unfold Φ₀
  iintro ⟨Hs, -, Hr⟩
  isplitl [Hs] <;> iassumption

theorem after_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scoped_eq, ownSems0_eq]
  unfold Φ₁
  exact Entails.refl _

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) _ fun g u h => (owedB_pos h)
    · exact mayWait_low c _ (by fin_cases w <;> fin_cases s <;> decide) _ fun g u h => absurd h (Nat.lt_irrefl 0)

/-- What a device's memory holds at the end beside the windows' arrays: its barrier semaphore at zero, the weight as it
    was, the result. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_v1) = resF m c

theorem left_read (c : Dev nD) (s' : Phys nD τ sig (Elt F)) :
    iprop(left m c ∗ emp ∗ SI s') ⊢ (|={Set.univ}=> iprop(⌜QY m c s'.mem⌝ ∗ SI s') : sProp 𝕄) := by
  unfold left wPts
  rw [wM_eq c (m ((c : Thread nD τ).loc main_arg1)), oM_eq c (resF m c), ← unscopedSems0_eq]
  iintro ⟨⟨Hz, Hw, Ho⟩, -, HSI⟩
  ihave %hw := (SI_pointsTo_agree (st := s')) $$ [HSI Hw]
  · isplitl [HSI] <;> iassumption
  ihave %ho := (SI_pointsTo_agree (st := s')) $$ [HSI Ho]
  · isplitl [HSI] <;> iassumption
  imod (Pipeline.unscopedSems0_read (X := unscopedSems0 c) (c := c) fupd_intro s') $$ [Hz HSI] with ⟨%hz, HSI⟩
  · isplitl [Hz] <;> iassumption
  imodintro
  isplitr
  · ipureintro
    exact ⟨hz, funext fun i => hw i (Finset.mem_univ _), funext fun i => ho i (Finset.mem_univ _)⟩
  · iexact HSI

/-! ## The run -/

/-- The whole program's outcome on a device: its arguments as they were, and the result. -/
def Outcome (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v1) = resF m c

/-- From any memory with every counter at zero, every fair execution of the eight devices ends, with every device's part
    of the result as computed, the arguments unchanged and every semaphore at zero. -/
theorem run_main : θ_run defs (onTc (τ := τ) (main (F := F))) (s₀ m ρ) (fun r => (∀ c : Dev nD, Outcome m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HB⟩
      ihave H' := (own_pair_emb _ _ _) $$ HB
      icases H' with ⟨HX, -⟩
      imod (fund_cells m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := before_intro m ρ) (hout := after_exit m ρ)
    (QY := QY m) (hY := left_read m)
    (hQ := fun _ h hs => ⟨fun c => ⟨((h c).1 0).trans ((dats m ρ 0 c).arrAt_in (0 : Fin 3) rfl _), (h c).2.2.2.1,
      ((h c).1 1).trans ((dats m ρ 0 c).arrAt_in (1 : Fin 3) rfl _), ((h c).1 2).trans ((dats m ρ 0 c).arrAt_in (2 : Fin 3) rfl _), (h c).2.2.2.2⟩,
      sem_eq_zero hs fun c => (h c).2.2.1⟩)

end Cert.KernelIdeal.A2A

end
-- ==== Proof.Frames.lean ====
/-
# The frames

Every program's run ends, its arguments as they were.
-/
module

public import proofs.«01_k».proof.Proof.Launch
public import proofs.«01_k».proof.Defs
public import proofs.«01_k».proof.Proof.Gen.Kernel
public import proofs.«01_k».proof.Proof.Gen.ReferenceIdeal.Run
public import proofs.«01_k».proof.Proof.Gen.ClippedIdeal.Run

@[expose] public section

set_option maxRecDepth 8000
set_option maxHeartbeats 1000000

noncomputable section

namespace Cert.KernelIdeal.A2A

open Idealize.ShloMosaic Idealize.ShloMosaic.TcCoe Idealize.SL.Sem
open Cert.KernelIdeal

/-- At any floats: the run ends, the arguments unchanged and every semaphore at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run (defs (F := F)) _ _).mono (fun _ h => ⟨fun c => ⟨(h.1 c).1, (h.1 c).2.1, (h.1 c).2.2.1, (h.1 c).2.2.2.1⟩, h.2⟩) (run_main m ρ)

theorem frame_ideal : Cert.quiescent_KernelIdeal := fun m ρ _ => frame_any m ρ

/-! The program as it is run is the same text read at the machine's own floats. -/

theorem body_same {F : FTy → Type} [FloatOps F] : Cert.Kernel.cc0_body (F := F) = cc0_body (F := F) := rfl
theorem calls_same {F : FTy → Type} [FloatOps F] : Cert.Kernel.defs₀ (F := F) = defs₀ (F := F) := by
  unfold Cert.Kernel.defs₀ defs₀
  refine congrArg Defs.onTc (funext fun l => funext fun a => ?_)
  match l, a with
  | 0, (t, s) => rfl
  | ⟨_ + 1, h⟩, _ => exact absurd h (Nat.not_lt.2 (Nat.le_add_left _ _))
theorem defs_same {F : FTy → Type} [FloatOps F] : Cert.Kernel.defs (F := F) = defs (F := F) := by
  unfold Cert.Kernel.defs defs
  exact congrArg (Pipeline.defs pcfgs) calls_same

theorem frame_kernel : Cert.quiescent_Kernel := fun m ρ _ => by
  have h := frame_any (F := Bits) m ρ
  rw [← defs_same] at h
  exact h

/-! The references have no semaphores; their runs are read back operation by operation. -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

end Cert.KernelIdeal.A2A

end
-- ==== Proof.Arith.lean ====
/-
# Integer products over the reals, and the two ways to write SiLU

The int8 product where it is exact, the float product of integers, and the total of the products' magnitudes, each
as one sum over the contracted coordinate; and that `y · logistic y` is `y / (1 + e⁻ʸ)` at every extended real.
-/
module

public import proofs.«01_k».proof.Proof.Gen.KernelIdeal.Skeleton
public import Idealize.ShloMosaic.Lib.IntMxu
public import Idealize.ShloMosaic.Lib.Pointwise
public import Idealize.ShloMosaic.Lib.ValueIdx
public import Idealize.ShloMosaic.PureOps.Ideal.Laws

@[expose] public section

set_option maxRecDepth 8000

noncomputable section

namespace Cert.KernelIdeal.A2A

open Idealize.ShloMosaic

/-! ## Sums over the one contracted coordinate -/

section Plain
variable {p q r : Nat}

/-- A plain product's sum, whatever is summed of each pair of places, runs over the contracted coordinate. -/
theorem sum_plain {M : Type} [AddCommMonoid M] (f : (⟨2, ![p, q]⟩ : Shape).Idx → (⟨2, ![q, r]⟩ : Shape).Idx → M)
    (j : (⟨2, ![p, r]⟩ : Shape).Idx) :
    ∑ k : (DotDims.plain p q r).contr.Idx, f ((DotDims.plain p q r).lhsIdx j k) ((DotDims.plain p q r).rhsIdx j k)
      = ∑ k : Fin q, f (ix2 (j 0) k) (ix2 k (j 1)) := by
  refine Fintype.sum_equiv (ValueIdx.contrEquiv1 (DotDims.plain p q r) q rfl rfl) _ _ fun k => congrArg₂ f ?_ ?_
  · refine funext (Fin.forall_fin_two.mpr ⟨Fin.ext ?_, Fin.ext ?_⟩)
    · simp [DotDims.lhsIdx, DotDims.plain]; rfl
    · simp [DotDims.lhsIdx, DotDims.plain, ValueIdx.contrEquiv1]; rfl
  · refine funext (Fin.forall_fin_two.mpr ⟨Fin.ext ?_, Fin.ext ?_⟩)
    · simp [DotDims.rhsIdx, DotDims.plain, ValueIdx.contrEquiv1]; rfl
    · simp [DotDims.rhsIdx, DotDims.plain]; rfl

variable (A : IVec ⟨2, ![p, q]⟩ 8) (B : IVec ⟨2, ![q, r]⟩ 8)

/-- The exact integer product at row `a` and column `b`, and the total of its products' magnitudes. -/
def prodAt (a : Fin p) (b : Fin r) : ℤ := ∑ k : Fin q, (A (ix2 a k)).toInt * (B (ix2 k b)).toInt
def magAt (a : Fin p) (b : Fin r) : ℕ := ∑ k : Fin q, ((A (ix2 a k)).toInt * (B (ix2 k b)).toInt).natAbs

theorem matmulI8_prodAt (j : (⟨2, ![p, r]⟩ : Shape).Idx) (h : magAt A B (j 0) (j 1) ≤ 2 ^ 24 - 1) :
    (matmulI8 IntMxuNumerics.v7x (DotDims.plain p q r) A B (constantI _ 32 0#32) j).toInt = prodAt A B (j 0) (j 1) := by
  have hs : absDotI8 (DotDims.plain p q r) A B j = magAt A B (j 0) (j 1) :=
    sum_plain (fun x y => ((A x).toInt * (B y).toInt).natAbs) j
  rw [matmulI8_toInt IntMxuNumerics.v7x _ A B _ j rfl (hs.trans_le h) (by decide)]
  exact sum_plain (fun x y => (A x).toInt * (B y).toInt) j

theorem dotGeneral_sum {φ₁ φ₂ : FTy} (prec : Option ContractPrecision) (L : FVec Ideal ⟨2, ![p, q]⟩ φ₁) (R : FVec Ideal ⟨2, ![q, r]⟩ φ₂)
    (j : (⟨2, ![p, r]⟩ : Shape).Idx) :
    Host.dotGeneral (DotDims.plain p q r) prec L R j = ∑ k : Fin q, (L (ix2 (j 0) k) * R (ix2 k (j 1)) : EReal) := by
  show FloatOps.dotGeneral _ prec _ L R j = _
  rw [Ideal.dotGeneral_apply]
  exact sum_plain (fun x y => (L x * R y : EReal)) j
end Plain

theorem coe_sum {T : Type} (s : Finset T) (f : T → ℝ) : ((∑ t ∈ s, f t : ℝ) : EReal) = ∑ t ∈ s, (f t : EReal) := by
  classical
  refine Finset.induction_on s rfl fun a s ha ih => ?_
  rw [Finset.sum_insert ha, Finset.sum_insert ha, EReal.coe_add, ih]

/-- A byte read as an integer, on the way through 32 bits. -/
theorem toInt_extsi (x : BitVec 8) : (x.signExtend 32).toInt = x.toInt := BitVec.toInt_signExtend_of_le (by decide)

section Casts
variable {p q r : Nat} (A : IVec ⟨2, ![p, q]⟩ 8) (B : IVec ⟨2, ![q, r]⟩ 8) (h : 8 < 32)

theorem dot_ints (j : (⟨2, ![p, r]⟩ : Shape).Idx) :
    Host.dotGeneral (DotDims.plain p q r) none (sitofp (F := Ideal) .f32 (extsi 32 A h)) (sitofp .f32 (extsi 32 B h)) j
      = (((prodAt A B (j 0) (j 1) : ℤ) : ℝ) : EReal) := by
  rw [dotGeneral_sum]; unfold prodAt; rw [Int.cast_sum, coe_sum]
  refine Finset.sum_congr rfl fun k _ => ?_
  rw [Int.cast_mul, EReal.coe_mul]
  show ((((A _).signExtend 32).toInt : ℝ) : EReal) * ((((B _).signExtend 32).toInt : ℝ) : EReal) = _
  rw [toInt_extsi, toInt_extsi]

theorem dot_mags (j : (⟨2, ![p, r]⟩ : Shape).Idx) :
    Host.dotGeneral (DotDims.plain p q r) none (Host.absf (sitofp (F := Ideal) .f32 (extsi 32 A h))) (Host.absf (sitofp .f32 (extsi 32 B h))) j
      = (((magAt A B (j 0) (j 1) : ℕ) : ℝ) : EReal) := by
  rw [dotGeneral_sum]; unfold magAt; rw [Nat.cast_sum, coe_sum]
  refine Finset.sum_congr rfl fun k _ => ?_
  have habs (a : ℝ) : max (a : EReal) (-(a : EReal)) = ((|a| : ℝ) : EReal) := by
    rw [← EReal.coe_neg]; exact (EReal.coe_strictMono.monotone.map_max).symm
  show max ((((A _).signExtend 32).toInt : ℝ) : EReal) (-((((A _).signExtend 32).toInt : ℝ) : EReal))
    * max ((((B _).signExtend 32).toInt : ℝ) : EReal) (-((((B _).signExtend 32).toInt : ℝ) : EReal)) = _
  rw [toInt_extsi, toInt_extsi, habs, habs, ← EReal.coe_mul, Int.natAbs_mul, Nat.cast_mul, Nat.cast_natAbs, Nat.cast_natAbs,
    Int.cast_abs, Int.cast_abs]
end Casts

/-! ## SiLU -/

/-- SiLU as the kernel writes it. -/
def silu (y : EReal) : EReal := y * Ideal.logistic y

/-- It is SiLU as the reference writes it. -/
theorem silu_eq_div (y : EReal) : silu y = Ideal.div y (1 + Ideal.exp (-y)) := by
  unfold silu
  induction y using EReal.rec with
  | bot =>
    rw [Ideal.logistic_bot, EReal.neg_bot, Ideal.exp_top, EReal.add_top_of_ne_bot (show (1 : EReal) ≠ ⊥ from EReal.coe_ne_bot 1)]
    simp [Ideal.div]
  | top =>
    rw [Ideal.logistic_top, EReal.neg_top, Ideal.exp_bot, add_zero, Ideal.div, if_neg one_ne_zero, ← EReal.coe_one, ← EReal.coe_inv, inv_one]
  | coe y =>
    have h : (1 : EReal) + Ideal.exp (-(y : EReal)) = ((1 + Real.exp (-y) : ℝ) : EReal) := by
      rw [← EReal.coe_neg, Ideal.exp_coe, ← EReal.coe_one, ← EReal.coe_add]
    have hne : ((1 + Real.exp (-y) : ℝ) : EReal) ≠ 0 := by
      have : (0 : ℝ) < 1 + Real.exp (-y) := by positivity
      exact_mod_cast this.ne'
    rw [Ideal.logistic_coe, h, Ideal.div, if_neg hne, ← EReal.coe_inv]

/-- Where `y` lies within the clip, the clip changes nothing. -/
theorem clip_inside (lo hi y : EReal) (h₁ : lo ≤ y) (h₂ : y ≤ hi) : min hi (max lo y) = y := by
  rw [max_eq_right h₁, min_eq_right h₂]

end Cert.KernelIdeal.A2A

end
-- ==== Proof.Value.lean ====
/-
# What a device's columns of the result are

Over the extended reals, where the int8 products are exact: each element is SiLU of the exact integer product of its
row of the whole `x` and its column of the weight, times the two scales.
-/
module

public import proofs.«01_k».proof.Proof.Blocks
public import proofs.«01_k».proof.Proof.Arith
public import Idealize.ShloMosaic.Lib.Layout

@[expose] public section

set_option maxRecDepth 8000
set_option maxHeartbeats 1000000

noncomputable section

namespace Cert.KernelIdeal.A2A

open Cert.KernelIdeal Cert.KernelIdeal.Gen
open Idealize.ShloMosaic Idealize.ShloMosaic.TcCoe
open Idealize.SL.Sem

/-- The whole of `x`. -/
abbrev S4096x4096 : Shape := ⟨2, ![4096, 4096]⟩

/-- The one place of an array of one. -/
abbrev place1 : S1.Idx := Shape.Idx.first (s := S1) (by decide)
theorem place1_only (i : S1.Idx) : i = place1 := funext fun a => by
  have h : (i a).val < 1 := by have := (i a).isLt; fin_cases a; exact this
  have h' : (place1 a).val < 1 := by have := (place1 a).isLt; fin_cases a; exact this
  exact Fin.ext (by omega)

/-! ## The windows stage whole arrays -/

section Staged
variable {F : FTy → Type} [FloatOps F] (m : (ℓ : Loc nD τ sig) → Buf (Elt F) ℓ) (c : Dev nD)

theorem xC_eq (i : S512x4096.Idx) : xC m c i = m ((c : Thread nD τ).loc main_arg0) i :=
  congrArg (m ((c : Thread nD τ).loc main_arg0)) (funext (Fin.forall_fin_two.mpr
    ⟨Fin.ext (by show 0 + 1 * (i 0).val = _; omega), Fin.ext (by show 0 + 1 * (i 1).val = _; omega)⟩))
theorem aC_eq : aC m c place1 = m ((c : Thread nD τ).loc main_arg2) place1 :=
  congrArg (m ((c : Thread nD τ).loc main_arg2)) (place1_only _)
theorem bC_eq : bC m c place1 = m ((c : Thread nD τ).loc main_arg3) place1 :=
  congrArg (m ((c : Thread nD τ).loc main_arg3)) (place1_only _)

theorem wC_flat (r : Fin 8) : shapeCast S4096x1024 (wC3 m c r) shapeCasts_S1x4096x1024_S4096x1024 = wC m c r := funext fun j => by
  show wC m c r (Shape.reshapeEquiv _ (Shape.reshapeEquiv _ j)) = _
  rw [Shape.reshapeEquiv_reshapeEquiv, Shape.reshapeEquiv_self]

theorem wC_at (r : Fin 8) (k : Fin 4096) (l : Fin 1024) (b : Fin 8192) (h : b.val = 1024 * ((c.val + r.val) % 8) + l.val) :
    wC m c r (ix2 k l) = m ((c : Thread nD τ).loc main_arg1) (ix2 k b) := by
  refine congrArg (m ((c : Thread nD τ).loc main_arg1)) (funext (Fin.forall_fin_two.mpr ⟨Fin.ext ?_, Fin.ext ?_⟩))
  · show (k0_off1 c (BitVec.ofNat 32 r.val)) 0 + 1 * k.val = k.val; rw [col_off, Nat.one_mul]; exact Nat.zero_add _
  · show (k0_off1 c (BitVec.ofNat 32 r.val)) 1 + 1 * l.val = b.val; rw [col_off, Nat.one_mul, h]; rfl
end Staged

/-! ## A block of the result -/

variable (m : (ℓ : Loc nD τ sig) → Buf (Elt Ideal) ℓ)

/-- What the kernel makes of a block of rows and a block of columns. -/
def blockAt (s : EReal) (x : IVec S512x4096 8) (w : IVec S4096x1024 8) (i : S512x1024.Idx) : EReal :=
  silu ((((matmulI8 IntMxuNumerics.v7x dot_S512x4096_S4096x1024_S512x1024_1_0_0_1_n_n x w (constantI S512x1024 32 0#32) i).toInt : ℝ) : EReal) * s)

theorem own_block (c : Dev nD) (i : S512x1024.Idx) : ownV2 m c i = blockAt (scC m c) (xC m c) (wC m c 0) i := by
  rw [← wC_flat]
  show blockAt _ (shapeCast S512x4096 (xC m c) _) _ (Shape.reshapeEquiv _ (Shape.reshapeEquiv _ i)) = _
  rw [Shape.reshapeEquiv_reshapeEquiv, Shape.reshapeEquiv_self]
  congr 1
  exact funext fun j => congrArg (xC m c) (Shape.reshapeEquiv_self _ j)

theorem row_block (c : Dev nD) (j : Fin 7) (i : S512x1024.Idx) :
    rowV2 m c j i = blockAt (scC m (bwd c j)) (xC m (bwd c j)) (wC m (bwd c j) j.succ) i := by
  rw [← wC_flat]
  show blockAt _ (shapeCast S512x4096 (xC m (bwd c j)) _) _
    (Shape.reshapeEquiv _ (Shape.reshapeEquiv _ (Shape.reshapeEquiv _ (Shape.reshapeEquiv _ i)))) = _
  rw [Shape.reshapeEquiv_reshapeEquiv, Shape.reshapeEquiv_reshapeEquiv, Shape.reshapeEquiv_reshapeEquiv, Shape.reshapeEquiv_self]
  congr 1
  exact funext fun l => congrArg (xC m (bwd c j)) (Shape.reshapeEquiv_self _ l)

/-- How far after the sender of a block of rows the device that keeps it stands. -/
def stepsTo : Option (Fin 7) → Fin 8
  | none => 0
  | some j => j.succ

theorem stepsTo_rowsOf (c : Dev nD) (t : Option (Fin 7)) : ((rowsOf c t).val + (stepsTo t).val) % 8 = c.val := by
  revert c t; decide +kernel

theorem rowsV_block (c : Dev nD) (t : Option (Fin 7)) (i : S512x1024.Idx) :
    rowsV m c t i = blockAt (scC m (rowsOf c t)) (xC m (rowsOf c t)) (wC m (rowsOf c t) (stepsTo t)) i := by
  rcases t with _ | j
  · exact own_block m c i
  · exact row_block m c j i

/-! ## The result -/

section Result
variable (X : S4096x4096.Idx → BitVec 8) (W : S4096x8192.Idx → BitVec 8) (a b : S1.Idx → EReal)

/-- The dequantised product: the exact integer product of a row and a column, times the scales. -/
def dequant (J : S4096x8192.Idx) : EReal := (((prodAt X W (J 0) (J 1) : ℤ) : ℝ) : EReal) * (a place1 * b place1)

/-- Where an element of device `c`'s columns stands in the whole result. -/
def placeOf (c : Dev nD) (i : S4096x1024.Idx) : S4096x8192.Idx :=
  (show Layout.Tiles S4096x1024 S4096x8192 1 8 by decide).idx c i

theorem resF_eq
    (hx : ∀ d : Dev nD, m ((d : Thread nD τ).loc main_arg0) = Layout.block S512x4096 S4096x4096 0 8 d X)
    (hw : ∀ d : Dev nD, m ((d : Thread nD τ).loc main_arg1) = W)
    (ha : ∀ d : Dev nD, m ((d : Thread nD τ).loc main_arg2) = a)
    (hb : ∀ d : Dev nD, m ((d : Thread nD τ).loc main_arg3) = b)
    (c : Dev nD) (i : S4096x1024.Idx)
    (hexact : magAt X W (placeOf c i 0) (placeOf c i 1) ≤ 2 ^ 24 - 1) :
    resF m c i = silu (dequant X W a b (placeOf c i)) := by
  unfold resF
  rw [rowsV_block, rowsOf_stepOf]
  have hstep : ((rowDev i).val + (stepsTo (stepOf c (rowDev i))).val) % 8 = c.val := by
    have h := stepsTo_rowsOf c (stepOf c (rowDev i)); rwa [rowsOf_stepOf] at h
  generalize stepsTo (stepOf c (rowDev i)) = r at hstep
  have h0 : (placeOf c i 0).val = (i 0).val := rfl
  have h1 : (placeOf c i 1).val = c.val * 1024 + (i 1).val := rfl
  have hX (k : Fin 4096) : xC m (rowDev i) (ix2 (within i 0) k) = X (ix2 (placeOf c i 0) k) := by
    rw [xC_eq, hx]
    refine congrArg X (funext (Fin.forall_fin_two.mpr ⟨Fin.ext ?_, rfl⟩))
    show (i 0).val / 512 * 512 + (i 0).val % 512 = (i 0).val
    omega
  have hW (k : Fin 4096) : wC m (rowDev i) r (ix2 k (within i 1)) = W (ix2 k (placeOf c i 1)) := by
    rw [wC_at m (rowDev i) r k (within i 1) (placeOf c i 1) (by
      rw [h1, hstep]; show _ = 1024 * c.val + (i 1).val; omega), hw]
  have hprod : prodAt (xC m (rowDev i)) (wC m (rowDev i) r) (within i 0) (within i 1) = prodAt X W (placeOf c i 0) (placeOf c i 1) :=
    Finset.sum_congr rfl fun k _ => by rw [hX, hW]
  have hmag : magAt (xC m (rowDev i)) (wC m (rowDev i) r) (within i 0) (within i 1) = magAt X W (placeOf c i 0) (placeOf c i 1) :=
    Finset.sum_congr rfl fun k _ => by rw [hX, hW]
  have hs : scC m (rowDev i) = (a place1 * b place1 : EReal) := by
    unfold scC
    rw [aC_eq, bC_eq, ha, hb]
    rfl
  have hmat := matmulI8_prodAt (p := 512) (q := 4096) (r := 1024) (xC m (rowDev i)) (wC m (rowDev i) r) (within i) (hmag.trans_le hexact)
  unfold blockAt dequant
  rw [hs]
  exact congrArg (fun z : ℤ => silu (((z : ℝ) : EReal) * (a place1 * b place1))) (hmat.trans hprod)
end Result

end Cert.KernelIdeal.A2A

end
-- ==== Proof.Algebraic.lean ====
/-
# The value claims

The references and their masks read at an element, and each device's columns of the result equal to the reference's
wherever the mask holds.
-/
module

public import proofs.«01_k».proof.Proof.Launch
public import proofs.«01_k».proof.Proof.Value
public import proofs.«01_k».proof.Defs
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_exact_sums
public import proofs.«01_k».proof.Proof.Gen.On_exact_inside_clip

@[expose] public section

set_option maxRecDepth 8000
set_option maxHeartbeats 1000000

noncomputable section

namespace Cert.KernelIdeal.A2A

open Idealize.ShloMosaic Idealize.ShloMosaic.TcCoe Idealize.SL.Sem
open Cert.KernelIdeal

/-! ## The literals -/

theorem word_one : Ideal.ofBits .f32 0x3F800000#32 = 1 := by
  rw [show (1 : EReal) = ((1 : ℝ) : EReal) from rfl]; simp [Ideal.ofBits, Ideal.ieee, -EReal.coe_mul]; norm_num
theorem word_bound : Ideal.ofBits .f32 0x4B7FFFFF#32 = ((16777215 : ℝ) : EReal) := by
  simp [Ideal.ofBits, Ideal.ieee, -EReal.coe_mul]

/-- SiLU as the clipped reference writes it, where the clip changes nothing. -/
theorem silu_clipped (y : EReal) (hlo : Ideal.ofBits .f32 0xC2700000#32 ≤ y) (hhi : y ≤ Ideal.ofBits .f32 0x42700000#32) :
    silu y = Ideal.div y (Ideal.ofBits .f32 0x3F800000#32
      + Ideal.exp (-(min (Ideal.ofBits .f32 0x42700000#32) (max (Ideal.ofBits .f32 0xC2700000#32) y)))) := by
  rw [clip_inside _ _ _ hlo hhi, word_one, silu_eq_div]

/-! ## The references and the masks at an element -/

section Read
variable (X : S4096x4096.Idx → BitVec 8) (W : S4096x8192.Idx → BitVec 8) (a b : S1.Idx → EReal) (J : S4096x8192.Idx)

/-- The first nine operations of either reference. -/
theorem dequant_read (h : 8 < 32) (h₁ : S1.BroadcastsInDim ⟨2, ![1, 1]⟩ ![1])
    (h₂ : Shape.BroadcastsInDim ⟨2, ![1, 1]⟩ S4096x8192 ![0, 1]) :
    mulf (F := Ideal) (φ := .f32) (Host.dotGeneral (DotDims.plain 4096 4096 8192) none (sitofp (F := Ideal) .f32 (extsi 32 X h)) (sitofp .f32 (extsi 32 W h)))
      (broadcastInDim S4096x8192 ![0, 1] h₂ (broadcastInDim ⟨2, ![1, 1]⟩ ![1] h₁ (mulf (F := Ideal) (φ := .f32) a b))) J
      = dequant X W a b J := by
  refine congrArg₂ (fun x y : EReal => x * y) (dot_ints X W h J) ?_
  exact congrArg (fun i => (a i * b i : EReal)) (place1_only _)

/-- The last operations of each reference. -/
theorem divide_read (h : Shape.BroadcastsInDim ⟨0, ![]⟩ S4096x8192 ![]) (Y : FVec Ideal S4096x8192 .f32) (y : EReal) (hy : Y J = y) :
    Host.divf Y (addf (broadcastInDim S4096x8192 ![] h (constant ⟨0, ![]⟩ .f32 0x3F800000#32)) (Host.exp (Host.negf Y))) J = silu y := by
  rw [silu_eq_div, ← word_one, ← hy]
  rfl
theorem clipped_read (h : Shape.BroadcastsInDim ⟨0, ![]⟩ S4096x8192 ![]) (Y : FVec Ideal S4096x8192 .f32) (y : EReal) (hy : Y J = y)
    (hlo : Ideal.ofBits .f32 0xC2700000#32 ≤ y) (hhi : y ≤ Ideal.ofBits .f32 0x42700000#32) :
    Host.divf Y (addf (broadcastInDim S4096x8192 ![] h (constant ⟨0, ![]⟩ .f32 0x3F800000#32))
      (Host.exp (Host.negf (minimumf (broadcastInDim S4096x8192 ![] h (constant ⟨0, ![]⟩ .f32 0x42700000#32))
        (maximumf (broadcastInDim S4096x8192 ![] h (constant ⟨0, ![]⟩ .f32 0xC2700000#32)) Y))))) J = silu y := by
  rw [silu_clipped y hlo hhi, ← hy]
  rfl

theorem le_of_cmp {x y : EReal} (h : Ideal.cmp .ole x y = 1#1) : x ≤ y := by
  by_contra hn
  have : Ideal.cmp .ole x y = BitVec.ofBool (decide (x ≤ y)) := rfl
  rw [this, decide_eq_false hn] at h
  exact absurd h (by decide)
theorem ge_of_cmp {x y : EReal} (h : Ideal.cmp .oge x y = 1#1) : y ≤ x := by
  by_contra hn
  have : Ideal.cmp .oge x y = BitVec.ofBool (decide (y ≤ x)) := rfl
  rw [this, decide_eq_false hn] at h
  exact absurd h (by decide)

/-- A whole number at most the literal `2²⁴ - 1`. -/
theorem le_bound {n : ℕ} {x : EReal} (hx : x = ((n : ℝ) : EReal)) (h : x ≤ Ideal.ofBits .f32 0x4B7FFFFF#32) : n ≤ 2 ^ 24 - 1 := by
  rw [hx, word_bound, EReal.coe_le_coe_iff] at h
  have h' : (n : ℝ) ≤ ((2 ^ 24 - 1 : ℕ) : ℝ) := h.trans (by norm_num)
  exact Nat.cast_le.mp h'

theorem cmp_read (p : CmpFPredicate) (A B : FVec Ideal S4096x8192 .f32) : cmpf p A B J = Ideal.cmp p (A J) (B J) := rfl

theorem and_read (x y : IVec S4096x8192 1) : andi x y J = x J &&& y J := rfl

theorem sums_read : Cert.On_exact_sums.fn (F := Ideal) X W a b J
    = Ideal.cmp .ole (Host.dotGeneral (DotDims.plain 4096 4096 8192) none (Host.absf (sitofp (F := Ideal) .f32 (extsi 32 X (by decide))))
        (Host.absf (sitofp .f32 (extsi 32 W (by decide)))) J) (Ideal.ofBits .f32 0x4B7FFFFF#32) := by
  unfold Cert.On_exact_sums.fn
  refine (cmp_read J .ole _ _).trans (congrArg₂ (Ideal.cmp .ole) ?_ ?_)
  · rfl
  · rfl

theorem exact_of_mask (h : Cert.On_exact_sums.fn (F := Ideal) X W a b J = 1#1) : magAt X W (J 0) (J 1) ≤ 2 ^ 24 - 1 := by
  rw [sums_read] at h
  exact le_bound (dot_mags X W (by decide) J) (le_of_cmp h)

theorem and_one {x y : BitVec 1} (h : x &&& y = 1#1) : x = 1#1 ∧ y = 1#1 := by revert x y; decide

theorem inside_read : Cert.On_exact_inside_clip.fn (F := Ideal) X W a b J
    = Cert.On_exact_sums.fn (F := Ideal) X W a b J &&& (Ideal.cmp .oge (dequant X W a b J) (Ideal.ofBits .f32 0xC2700000#32)
        &&& Ideal.cmp .ole (dequant X W a b J) (Ideal.ofBits .f32 0x42700000#32)) := by
  have hy := dequant_read X W a b J (by decide) Cert.On_exact_inside_clip.Gen.facts.bcast_S1_S1x1_1
    Cert.On_exact_inside_clip.Gen.facts.bcast_S1x1_S4096x8192_0_1
  rw [sums_read]
  unfold Cert.On_exact_inside_clip.fn Cert.On_exact_inside_clip.fn_part1
  refine (and_read J _ _).trans (congrArg₂ (· &&& ·) ((cmp_read J .ole _ _).trans (congrArg₂ (Ideal.cmp .ole) ?_ ?_))
    ((and_read J _ _).trans (congrArg₂ (· &&& ·) ((cmp_read J .oge _ _).trans (congrArg₂ (Ideal.cmp .oge) hy ?_))
      ((cmp_read J .ole _ _).trans (congrArg₂ (Ideal.cmp .ole) hy ?_)))))
  · rfl
  · rfl
  · rfl
  · rfl

theorem mask_inside (h : Cert.On_exact_inside_clip.fn (F := Ideal) X W a b J = 1#1) :
    Cert.On_exact_sums.fn (F := Ideal) X W a b J = 1#1
      ∧ Ideal.ofBits .f32 0xC2700000#32 ≤ dequant X W a b J ∧ dequant X W a b J ≤ Ideal.ofBits .f32 0x42700000#32 := by
  rw [inside_read] at h
  exact ⟨(and_one h).1, ge_of_cmp (and_one (and_one h).2).1, le_of_cmp (and_one (and_one h).2).2⟩
end Read

/-! ## The claims -/

section Claims
variable {m : (ℓ : Loc nD τ sig) → Buf (Elt Ideal) ℓ}

theorem columns_eq {X : S4096x4096.Idx → BitVec 8} {W : S4096x8192.Idx → BitVec 8} {a b : S1.Idx → EReal}
    (h : ∀ c : Dev nD, m ((c : Thread nD τ).loc main_arg0) = Layout.block S512x4096 S4096x4096 0 8 c X
      ∧ m ((c : Thread nD τ).loc main_arg1) = W ∧ m ((c : Thread nD τ).loc main_arg2) = a ∧ m ((c : Thread nD τ).loc main_arg3) = b)
    (c : Dev nD) (i : S4096x1024.Idx) (hi : Cert.On_exact_sums.fn (F := Ideal) X W a b (placeOf c i) = 1#1) :
    resF m c i = silu (dequant X W a b (placeOf c i)) :=
  resF_eq m X W a b (fun d => (h d).1) (fun d => (h d).2.1) (fun d => (h d).2.2.1) (fun d => (h d).2.2.2) c i
    (exact_of_mask X W a b _ hi)
end Claims

theorem value_reference : Cert.algebraic_KernelIdeal_ReferenceIdeal_on_exact_sums := by
  intro m g m' g' _ h
  refine ⟨fun J => silu (dequant (m' (((0 : Dev Cert.ReferenceIdeal.nD).tc : Thread _ _).loc Cert.ReferenceIdeal.main_arg0))
      (m' (((0 : Dev Cert.ReferenceIdeal.nD).tc : Thread _ _).loc Cert.ReferenceIdeal.main_arg1))
      (m' (((0 : Dev Cert.ReferenceIdeal.nD).tc : Thread _ _).loc Cert.ReferenceIdeal.main_arg2))
      (m' (((0 : Dev Cert.ReferenceIdeal.nD).tc : Thread _ _).loc Cert.ReferenceIdeal.main_arg3)) J), ?_, ?_⟩
  · refine (θ_run defs _ _).mono (fun r hr c => ?_) (run_main m g)
    obtain ⟨h0, h1, h2, h3, hv⟩ := hr.1 c
    refine ⟨fun i hi => ?_, h0, h1, h2, h3⟩
    exact (congrFun hv i).trans (columns_eq h c i hi)
  · refine (θ_run Cert.ReferenceIdeal.defs _ _).mono (fun r hr => ?_) (Cert.ReferenceIdeal.Value.run (F := Ideal) m' g')
    obtain ⟨hv, hrest⟩ := hr 0
    refine ⟨fun J _ => (congrFun hv J).trans ?_, hrest⟩
    exact divide_read J Cert.ReferenceIdeal.Gen.facts.bcast_S_S4096x8192 _ _
      (dequant_read _ _ _ _ J (by decide) Cert.ReferenceIdeal.Gen.facts.bcast_S1_S1x1_1 Cert.ReferenceIdeal.Gen.facts.bcast_S1x1_S4096x8192_0_1)

theorem value_clipped : Cert.algebraic_KernelIdeal_ClippedIdeal_on_exact_inside_clip := by
  intro m g m' g' _ h
  refine ⟨fun J => silu (dequant (m' (((0 : Dev Cert.ClippedIdeal.nD).tc : Thread _ _).loc Cert.ClippedIdeal.main_arg0))
      (m' (((0 : Dev Cert.ClippedIdeal.nD).tc : Thread _ _).loc Cert.ClippedIdeal.main_arg1))
      (m' (((0 : Dev Cert.ClippedIdeal.nD).tc : Thread _ _).loc Cert.ClippedIdeal.main_arg2))
      (m' (((0 : Dev Cert.ClippedIdeal.nD).tc : Thread _ _).loc Cert.ClippedIdeal.main_arg3)) J), ?_, ?_⟩
  · refine (θ_run defs _ _).mono (fun r hr c => ?_) (run_main m g)
    obtain ⟨h0, h1, h2, h3, hv⟩ := hr.1 c
    refine ⟨fun i hi => ?_, h0, h1, h2, h3⟩
    exact (congrFun hv i).trans (columns_eq h c i (mask_inside _ _ _ _ _ hi).1)
  · refine (θ_run Cert.ClippedIdeal.defs _ _).mono (fun r hr => ?_) (Cert.ClippedIdeal.Value.run (F := Ideal) m' g')
    obtain ⟨hv, hrest⟩ := hr 0
    refine ⟨fun J hJ => (congrFun hv J).trans ?_, hrest⟩
    obtain ⟨_, hlo, hhi⟩ := mask_inside _ _ _ _ _ hJ
    exact clipped_read J Cert.ClippedIdeal.Gen.facts.bcast_S_S4096x8192 _ _
      (dequant_read _ _ _ _ J (by decide) Cert.ClippedIdeal.Gen.facts.bcast_S1_S1x1_1 Cert.ClippedIdeal.Gen.facts.bcast_S1x1_S4096x8192_0_1) hlo hhi

end Cert.KernelIdeal.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ClippedIdeal
public import proofs.«01_k».proof.Proof.Gen.On_exact_sums
public import proofs.«01_k».proof.Proof.Gen.On_exact_inside_clip
public import proofs.«01_k».proof.Proof.Gen.ReferenceIdeal.Run
public import proofs.«01_k».proof.Proof.Gen.ClippedIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.ClippedIdeal.Gen.facts, Cert.On_exact_sums.Gen.facts, Cert.On_exact_inside_clip.Gen.facts,
  Cert.KernelIdeal.A2A.frame_kernel, Cert.KernelIdeal.A2A.frame_ideal, Cert.KernelIdeal.A2A.frame_reference, Cert.KernelIdeal.A2A.frame_clipped,
  trivial, Cert.KernelIdeal.A2A.value_reference, Cert.KernelIdeal.A2A.value_clipped⟩

end Cert.Proof

end
